-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x3072 : Shape := ⟨3, ![8, 4096, 3072]⟩
abbrev S8x4096 : Shape := ⟨2, ![8, 4096]⟩
abbrev S3072x128 : Shape := ⟨2, ![3072, 128]⟩
abbrev S128 : Shape := ⟨1, ![128]⟩
abbrev S128x3072 : Shape := ⟨2, ![128, 3072]⟩
abbrev S6x8x4096 : Shape := ⟨3, ![6, 8, 4096]⟩
abbrev S8x128x3072 : Shape := ⟨3, ![8, 128, 3072]⟩
abbrev S8x128 : Shape := ⟨2, ![8, 128]⟩
abbrev S6x8x128 : Shape := ⟨3, ![6, 8, 128]⟩
abbrev S1088x128 : Shape := ⟨2, ![1088, 128]⟩
abbrev S128x8x128 : Shape := ⟨3, ![128, 8, 128]⟩
abbrev S1024x3072 : Shape := ⟨2, ![1024, 3072]⟩
abbrev S128x1024 : Shape := ⟨2, ![128, 1024]⟩
abbrev S128x128 : Shape := ⟨2, ![128, 128]⟩
abbrev S1 : Shape := ⟨1, ![1]⟩
abbrev S1x8x128 : Shape := ⟨3, ![1, 8, 128]⟩
abbrev S8x4096x6 : Shape := ⟨3, ![8, 4096, 6]⟩

abbrev nBuf : Space → Nat
  | .hbm => 10
  | .vmem => 12
  | .smem => 2
  | _ => 0

abbrev bufTy : (tb : Table) → Fin (tcTables nBuf tb) → BufTy
  | .hbm, ⟨0, _⟩ => ⟨S8x4096x3072, .fp8e4m3⟩
  | .hbm, ⟨1, _⟩ => ⟨S8x4096, .f32⟩
  | .hbm, ⟨2, _⟩ => ⟨S3072x128, .fp8e4m3⟩
  | .hbm, ⟨3, _⟩ => ⟨S128, .f32⟩
  | .hbm, ⟨4, _⟩ => ⟨S128, .f32⟩
  | .hbm, ⟨5, _⟩ => ⟨S128x3072, .fp8e4m3⟩
  | .hbm, ⟨6, _⟩ => ⟨S6x8x4096, .i32⟩
  | .hbm, ⟨7, _⟩ => ⟨S6x8x4096, .f32⟩
  | .hbm, ⟨8, _⟩ => ⟨S8x4096x6, .i32⟩
  | .hbm, ⟨9, _⟩ => ⟨S8x4096x6, .f32⟩
  | .local _ .vmem, ⟨0, _⟩ => ⟨S8x128x3072, .fp8e4m3⟩
  | .local _ .vmem, ⟨1, _⟩ => ⟨S8x128x3072, .fp8e4m3⟩
  | .local _ .vmem, ⟨2, _⟩ => ⟨S8x128, .f32⟩
  | .local _ .vmem, ⟨3, _⟩ => ⟨S8x128, .f32⟩
  | .local _ .vmem, ⟨4, _⟩ => ⟨S128x3072, .fp8e4m3⟩
  | .local _ .vmem, ⟨5, _⟩ => ⟨S6x8x128, .i32⟩
  | .local _ .vmem, ⟨6, _⟩ => ⟨S6x8x128, .i32⟩
  | .local _ .vmem, ⟨7, _⟩ => ⟨S6x8x128, .f32⟩
  | .local _ .vmem, ⟨8, _⟩ => ⟨S6x8x128, .f32⟩
  | .local _ .vmem, ⟨9, _⟩ => ⟨S1088x128, .f32⟩
  | .local _ .vmem, ⟨10, _⟩ => ⟨S128x8x128, .f32⟩
  | .local _ .vmem, ⟨11, _⟩ => ⟨S128x8x128, .f32⟩
  | .local _ .smem, ⟨0, _⟩ => ⟨S128, .f32⟩
  | .local _ .smem, ⟨1, _⟩ => ⟨S128, .f32⟩
  | _, _ => ⟨S8x4096x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x128x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6x8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x4096x3072 : Shape := ⟨3, ![8, 4096, 3072]⟩
abbrev S8x4096 : Shape := ⟨2, ![8, 4096]⟩
abbrev S3072x128 : Shape := ⟨2, ![3072, 128]⟩
abbrev S128 : Shape := ⟨1, ![128]⟩
abbrev S8x4096x6 : Shape := ⟨3, ![8, 4096, 6]⟩
abbrev S32768x3072 : Shape := ⟨2, ![32768, 3072]⟩
abbrev S128x32768 : Shape := ⟨2, ![128, 32768]⟩
abbrev S32768 : Shape := ⟨1, ![32768]⟩
abbrev S1x32768 : Shape := ⟨2, ![1, 32768]⟩
abbrev S128x1 : Shape := ⟨2, ![128, 1]⟩
abbrev S8x16x32768 : Shape := ⟨3, ![8, 16, 32768]⟩
abbrev S8x32768 : Shape := ⟨2, ![8, 32768]⟩
abbrev S8x1x32768 : Shape := ⟨3, ![8, 1, 32768]⟩
abbrev S6x32768 : Shape := ⟨2, ![6, 32768]⟩
abbrev S32768x6 : Shape := ⟨2, ![32768, 6]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x3072, .fp8e4m3⟩
  | .hbm, ⟨1, _⟩ => ⟨S8x4096, .f32⟩
  | .hbm, ⟨2, _⟩ => ⟨S3072x128, .fp8e4m3⟩
  | .hbm, ⟨3, _⟩ => ⟨S128, .f32⟩
  | .hbm, ⟨4, _⟩ => ⟨S128, .f32⟩
  | .hbm, ⟨5, _⟩ => ⟨S8x4096x6, .i32⟩
  | .hbm, ⟨6, _⟩ => ⟨S8x4096x6, .f32⟩
  | .local _ .vmem, ⟨0, _⟩ => ⟨S8x4096x3072, .fp8e4m3⟩
  | .local _ .vmem, ⟨1, _⟩ => ⟨S8x4096, .f32⟩
  | .local _ .vmem, ⟨2, _⟩ => ⟨S3072x128, .fp8e4m3⟩
  | .local _ .vmem, ⟨3, _⟩ => ⟨S128, .f32⟩
  | .local _ .vmem, ⟨4, _⟩ => ⟨S128, .f32⟩
  | .local _ .vmem, ⟨5, _⟩ => ⟨S8x4096x6, .i32⟩
  | .local _ .vmem, ⟨6, _⟩ => ⟨S8x4096x6, .f32⟩
  | _, _ => ⟨S8x4096x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x4096x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x6 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Program.lean ====
/- The kernel's body as loops. The printed body is straight-line code over 128 experts; here it is written once per
   step of the algorithm, with the steps repeated by recursion over a list of experts. -/
module

public import proofs.«01_k».proof.KernelIdeal

@[expose] public section

noncomputable section

namespace Cert.KernelIdeal.Route

open Idealize.ShloMosaic Idealize.SL.Sem

/-! ## The experts -/

/-- Experts as the leaves of a binary tree: the order in which the kernel takes maxima. -/
inductive Block
  | leaf (e : ℕ) (h : e < 128)
  | node (l r : Block)

/-- A list of experts. -/
inductive Steps
  | done
  | next (e : ℕ) (h : e < 128) (rest : Steps)

/-- The leaves of a block, in order, before `rest`. -/
def Block.steps : Block → Steps → Steps
  | .leaf e h, rest => .next e h rest
  | .node l r, rest => l.steps (r.steps rest)

/-- The first `n` experts of a list. -/
def Steps.take : ℕ → Steps → Steps
  | 0, _ => .done
  | _ + 1, .done => .done
  | n + 1, .next e h s => .next e h (s.take n)

/-- A list of experts without its first `n`. -/
def Steps.drop : ℕ → Steps → Steps
  | 0, s => s
  | _ + 1, .done => .done
  | n + 1, .next _ _ s => s.drop n

/-- Four experts. -/
def quad (a b c d : ℕ) (ha : a < 128) (hb : b < 128) (hc : c < 128) (hd : d < 128) : Block :=
  .node (.node (.leaf a ha) (.leaf b hb)) (.node (.leaf c hc) (.leaf d hd))

/-- The experts of group 0. -/
def group0 : Block :=
  .node (.node (quad 0 1 2 3 (by decide) (by decide) (by decide) (by decide))
    (quad 4 5 6 7 (by decide) (by decide) (by decide) (by decide)))
   (.node (quad 8 9 10 11 (by decide) (by decide) (by decide) (by decide))
    (quad 12 13 14 15 (by decide) (by decide) (by decide) (by decide)))
/-- The experts of group 1. -/
def group1 : Block :=
  .node (.node (quad 16 17 18 19 (by decide) (by decide) (by decide) (by decide))
    (quad 20 21 22 23 (by decide) (by decide) (by decide) (by decide)))
   (.node (quad 24 25 26 27 (by decide) (by decide) (by decide) (by decide))
    (quad 28 29 30 31 (by decide) (by decide) (by decide) (by decide)))
/-- The experts of group 2. -/
def group2 : Block :=
  .node (.node (quad 32 33 34 35 (by decide) (by decide) (by decide) (by decide))
    (quad 36 37 38 39 (by decide) (by decide) (by decide) (by decide)))
   (.node (quad 40 41 42 43 (by decide) (by decide) (by decide) (by decide))
    (quad 44 45 46 47 (by decide) (by decide) (by decide) (by decide)))
/-- The experts of group 3. -/
def group3 : Block :=
  .node (.node (quad 48 49 50 51 (by decide) (by decide) (by decide) (by decide))
    (quad 52 53 54 55 (by decide) (by decide) (by decide) (by decide)))
   (.node (quad 56 57 58 59 (by decide) (by decide) (by decide) (by decide))
    (quad 60 61 62 63 (by decide) (by decide) (by decide) (by decide)))
/-- The experts of group 4. -/
def group4 : Block :=
  .node (.node (quad 64 65 66 67 (by decide) (by decide) (by decide) (by decide))
    (quad 68 69 70 71 (by decide) (by decide) (by decide) (by decide)))
   (.node (quad 72 73 74 75 (by decide) (by decide) (by decide) (by decide))
    (quad 76 77 78 79 (by decide) (by decide) (by decide) (by decide)))
/-- The experts of group 5. -/
def group5 : Block :=
  .node (.node (quad 80 81 82 83 (by decide) (by decide) (by decide) (by decide))
    (quad 84 85 86 87 (by decide) (by decide) (by decide) (by decide)))
   (.node (quad 88 89 90 91 (by decide) (by decide) (by decide) (by decide))
    (quad 92 93 94 95 (by decide) (by decide) (by decide) (by decide)))
/-- The experts of group 6. -/
def group6 : Block :=
  .node (.node (quad 96 97 98 99 (by decide) (by decide) (by decide) (by decide))
    (quad 100 101 102 103 (by decide) (by decide) (by decide) (by decide)))
   (.node (quad 104 105 106 107 (by decide) (by decide) (by decide) (by decide))
    (quad 108 109 110 111 (by decide) (by decide) (by decide) (by decide)))
/-- The experts of group 7. -/
def group7 : Block :=
  .node (.node (quad 112 113 114 115 (by decide) (by decide) (by decide) (by decide))
    (quad 116 117 118 119 (by decide) (by decide) (by decide) (by decide)))
   (.node (quad 120 121 122 123 (by decide) (by decide) (by decide) (by decide))
    (quad 124 125 126 127 (by decide) (by decide) (by decide) (by decide)))

/-- All experts. -/
def experts : Block :=
  .node (.node (.node group0 group1) (.node group2 group3)) (.node (.node group4 group5) (.node group6 group7))

/-- All experts but the first. -/
def tail : Steps := (experts.steps .done).drop 1

variable {F : FTy → Type} [FloatOps F] [Facts]
open Facts₀ Facts

/-- One value per token of the block. -/
abbrev Tile (F : FTy → Type) [FloatOps F] := FVec F S8x128 .f32
/-- One integer per token of the block. -/
abbrev ITile := IVec S8x128 32
/-- A program of the kernel. -/
abbrev Body (F : FTy → Type) [FloatOps F] [Facts] := Prog (TpuEff nD τ sig (Elt F) Λ₀ .tc) PUnit

/-- The maxima of a block, taken as the kernel takes them, over values that the leaves' programs yield. -/
def Block.run (body : (e : ℕ) → e < 128 → (Tile F → Body F) → Body F) : Block → (Tile F → Body F) → Body F
  | .leaf e h, k => body e h k
  | .node l r, k => l.run body fun a => r.run body fun b => k (maximumf a b)

/-- A loop over a list of experts that carries a value. -/
def Steps.run {α : Type} (body : (e : ℕ) → e < 128 → α → (α → Body F) → Body F) : Steps → α → (α → Body F) → Body F
  | .done, a, k => k a
  | .next e h s, a, k => body e h a fun b => s.run body b k

theorem Steps.run_split {α : Type} (body : (e : ℕ) → e < 128 → α → (α → Body F) → Body F) (n : ℕ) (s : Steps) (a : α)
    (k : α → Body F) : s.run body a k = (s.take n).run body a fun b => (s.drop n).run body b k := by
  induction n generalizing s a with
  | zero => rfl
  | succ n ih =>
    cases s with
    | done => rfl
    | next e h s => exact congrArg (body e h a) (funext fun b => ih s b)

/-! ## Memory -/

theorem inside {e : ℕ} (h : e < 128) : ∀ a, (![e, 0, 0] : Fin 3 → Nat) a + S1x8x128.size a ≤ S128x8x128.size a := by
  intro a; fin_cases a
  · show e + 1 ≤ 128; omega
  · show 0 + 8 ≤ 8; omega
  · show 0 + 128 ≤ 128; omega
theorem insideOut {r : ℕ} (h : r < 6) : ∀ a, (![r, 0, 0] : Fin 3 → Nat) a + S1x8x128.size a ≤ S6x8x128.size a := by
  intro a; fin_cases a
  · show r + 1 ≤ 6; omega
  · show 0 + 8 ≤ 8; omega
  · show 0 + 128 ≤ 128; omega
theorem insideWord {e : ℕ} (h : e < 128) : ∀ a, (![e] : Fin 1 → Nat) a + S1.size a ≤ S128.size a := by
  intro a; fin_cases a
  show e + 1 ≤ 128; omega
theorem insideRows {e : ℕ} (h : e < 128) :
    ∀ a, S8x128.size a = 0 ∨ (![e, 0] : Fin 2 → Nat) a + (![136, 1] : Fin 2 → Nat) a * (S8x128.size a - 1) < S1088x128.size a := by
  intro a; fin_cases a
  · right; show e + 136 * (8 - 1) < 1088; omega
  · right; show 0 + 1 * (128 - 1) < 128; omega

/-- Read expert `e`'s part of a scratch array. -/
def lookRaw (M : Memref sig .tc .vmem S128x8x128 .f32) (e : ℕ) (h : e < 128) (k : Vec F S1x8x128 .f32 → Body F) : Body F :=
  .op (.load M (Rect.unit (s := S128x8x128) ![e, 0, 0] S1x8x128.size (inside h)).toLoadRect (View.loadsAt_vmem h_S1x8x128)) k
/-- Read expert `e`'s tile of a scratch array. -/
def look (M : Memref sig .tc .vmem S128x8x128 .f32) (e : ℕ) (h : e < 128) (k : Tile F → Body F) : Body F :=
  lookRaw M e h fun v => k (shapeCast S8x128 v shapeCasts_S1x8x128_S8x128)
/-- Write expert `e`'s part of a scratch array. -/
def writeRaw (M : Memref sig .tc .vmem S128x8x128 .f32) (e : ℕ) (h : e < 128) (v : Vec F S1x8x128 .f32) (k : Body F) : Body F :=
  .op (.store M (Rect.unit (s := S128x8x128) ![e, 0, 0] S1x8x128.size (inside h)) v
    Finset.univ (View.stores_vmem_bits_univ h_S1x8x128 rfl) (.inl rfl)) fun _ => k
/-- Write expert `e`'s tile of a scratch array. -/
def write (M : Memref sig .tc .vmem S128x8x128 .f32) (e : ℕ) (h : e < 128) (v : Tile F) (k : Body F) : Body F :=
  writeRaw M e h (shapeCast S1x8x128 v shapeCasts_S8x128_S1x8x128) k
/-- Write expert `e`'s tile, which the kernel reads first. -/
def put (M : Memref sig .tc .vmem S128x8x128 .f32) (e : ℕ) (h : e < 128) (v : Tile F) (k : Body F) : Body F :=
  look M e h fun _ => write M e h v k
/-- The same, and go on with what was written. -/
def keepIn (M : Memref sig .tc .vmem S128x8x128 .f32) (e : ℕ) (h : e < 128) (v : Tile F) (k : Tile F → Body F) : Body F :=
  put M e h v (k v)
/-- Read entry `e` of a table of 128 numbers. -/
def word (M : Memref sig .tc .smem S128 .f32) (e : ℕ) (h : e < 128) (k : Elt F .f32 → Body F) : Body F :=
  (smemLoad M (Rect.unit (s := S128) ![e] S1.size (insideWord h)) numel1_S1 rfl).bind k
/-- Write an output's tile of round `r`, which the kernel reads first. -/
def putOut {ty : EltTy} (hty : ty.bits = 32) (M : Memref sig .tc .vmem S6x8x128 ty) (r : ℕ) (h : r < 6) (v : Vec F S8x128 ty) (k : Body F) : Body F :=
  .op (.load M (Rect.unit (s := S6x8x128) ![r, 0, 0] S1x8x128.size (insideOut h)).toLoadRect (View.loadsAt_vmem h_S1x8x128)) fun _ =>
    .op (.store M (Rect.unit (s := S6x8x128) ![r, 0, 0] S1x8x128.size (insideOut h)) (shapeCast S1x8x128 v shapeCasts_S8x128_S1x8x128)
      Finset.univ (View.stores_vmem_bits_univ h_S1x8x128 hty) (.inl rfl)) fun _ => k

/-! ## The values of the steps -/

/-- The tile of one float constant. -/
def fill (b : BitVec 32) : Tile F := broadcast S8x128 (Scalar.ofBits .f32 b : F .f32)

/-- Whether a group is among the four best: the groups that beat it are counted, those before it also when they tie. -/
def wins (before after : List (Tile F)) (g : Tile F) : IVec S8x128 1 :=
  cmpi .slt
    (after.foldl (fun n h => addi n (extui 32 (cmpf .ogt h g) natLt_1_32))
      (before.foldl (fun n h => addi n (extui 32 (cmpf .oge h g) natLt_1_32)) (broadcast S8x128 0#32)))
    (broadcast S8x128 4#32)

/-- What the search for a maximum carries: the largest choice so far, its expert, its score. -/
structure Best (F : FTy → Type) [FloatOps F] where
  choice : Tile F
  expert : ITile
  score : Tile F

/-- Expert `e` takes part in the search, with its choice and its score. -/
def Best.meet (b : Best F) (e : ℕ) (c s : Tile F) : Best F :=
  ⟨select (cmpf .ogt c b.choice) c b.choice, select (cmpf .ogt c b.choice) (broadcast S8x128 (BitVec.ofNat 32 e)) b.expert,
    select (cmpf .ogt c b.choice) s b.score⟩

/-- Expert `e`'s choice, −∞ where it was selected in the round before. -/
def struck (prev : ITile) (e : ℕ) (c : Tile F) : Tile F :=
  select (cmpi .eq prev (broadcast S8x128 (BitVec.ofNat 32 e))) (fill 0xFF800000#32) c

/-! ## The steps, in the order of the program -/

section
variable (lt : Memref sig .tc .vmem S1088x128 .f32) (sc ch : Memref sig .tc .vmem S128x8x128 .f32)
  (alpha bias : Memref sig .tc .smem S128 .f32) (ids : Memref sig .tc .vmem S6x8x128 .i32) (wts : Memref sig .tc .vmem S6x8x128 .f32)

/-- Expert `e`'s logits: the product's row times the token's scale times the expert's. -/
def logit (xs : Tile F) (e : ℕ) (h : e < 128) (k : Tile F → Body F) : Body F :=
  .op (.load lt (⟨![e, 0], S8x128.size, ![136, 1], insideRows h⟩ : LoadRect S1088x128) (View.loadsAt_vmem h_S8x128)) fun (v : Vec F S8x128 .f32) =>
    word alpha e h fun a => keepIn sc e h (mulf (mulf v xs) (broadcast S8x128 a)) k

/-- Expert `e`'s exponential, before it is written. -/
def power (m : Tile F) (e : ℕ) (h : e < 128) (k : Tile F → Body F) : Body F :=
  look sc e h fun z => look ch e h fun _ => k (exp (subf z m))

/-- Expert `e`'s exponential, added to the sum. -/
def addPower (m : Tile F) (e : ℕ) (h : e < 128) (total : Tile F) (k : Tile F → Body F) : Body F :=
  power sc ch m e h fun u => write ch e h u (k (addf total u))

/-- Expert `e`'s score and its choice. -/
def choose (e : ℕ) (h : e < 128) (s : Tile F) (k : Tile F → Body F) : Body F :=
  put sc e h s (word bias e h fun b => keepIn ch e h (addf s (broadcast S8x128 b)) k)

/-- The same from the exponentials. -/
def chooseFrom (inv : Tile F) (e : ℕ) (h : e < 128) (k : Tile F → Body F) : Body F :=
  look ch e h fun u => choose sc ch bias e h (mulf u inv) k

/-- Expert `e`'s choice, −∞ where its group is not among the best. -/
def mask (keep : IVec S8x128 1) (e : ℕ) (h : e < 128) (_ : Unit) (k : Unit → Body F) : Body F :=
  look ch e h fun c => put ch e h (select keep c (fill 0xFF800000#32)) (k ())

/-- The masks of all groups. -/
def masks (g0 g1 g2 g3 g4 g5 g6 g7 : Tile F) (k : Body F) : Body F :=
  (group0.steps .done).run (mask ch (wins [] [g1, g2, g3, g4, g5, g6, g7] g0)) () fun _ =>
  (group1.steps .done).run (mask ch (wins [g0] [g2, g3, g4, g5, g6, g7] g1)) () fun _ =>
  (group2.steps .done).run (mask ch (wins [g0, g1] [g3, g4, g5, g6, g7] g2)) () fun _ =>
  (group3.steps .done).run (mask ch (wins [g0, g1, g2] [g4, g5, g6, g7] g3)) () fun _ =>
  (group4.steps .done).run (mask ch (wins [g0, g1, g2, g3] [g5, g6, g7] g4)) () fun _ =>
  (group5.steps .done).run (mask ch (wins [g0, g1, g2, g3, g4] [g6, g7] g5)) () fun _ =>
  (group6.steps .done).run (mask ch (wins [g0, g1, g2, g3, g4, g5] [g7] g6)) () fun _ =>
  (group7.steps .done).run (mask ch (wins [g0, g1, g2, g3, g4, g5, g6] [] g7)) () fun _ => k

/-- Expert `e` in the first round's search. -/
def meet (e : ℕ) (h : e < 128) (b : Best F) (k : Best F → Body F) : Body F :=
  look ch e h fun c => look sc e h fun s => k (b.meet e c s)

/-- Expert `e` in a later round's search. -/
def meetAgain (prev : ITile) (e : ℕ) (h : e < 128) (b : Best F) (k : Best F → Body F) : Body F :=
  look ch e h fun c => put ch e h (struck prev e c) (look sc e h fun s => k (b.meet e (struck prev e c) s))

/-- A round's results: the expert found and its weight. -/
def emit (r : ℕ) (h : r < 6) (b : Best F) (k : Body F) : Body F :=
  putOut rfl ids r h b.expert (putOut rfl wts r h (mulf b.score (fill 0x40200000#32)) k)

/-- A later round's search among the first expert and `rest`. -/
def searchAgain (prev : ITile) (rest : Steps) (k : Best F → Body F) : Body F :=
  look ch 0 (by decide) fun c => put ch 0 (by decide) (struck prev 0 c)
    (look sc 0 (by decide) fun s => rest.run (meetAgain sc ch prev) ⟨struck prev 0 c, broadcast S8x128 0#32, s⟩ k)

/-- The first round's search among the first expert and `rest`. -/
def search (rest : Steps) (k : Best F → Body F) : Body F :=
  look ch 0 (by decide) fun c => look sc 0 (by decide) fun s => rest.run (meet sc ch) ⟨c, broadcast S8x128 0#32, s⟩ k

/-- The sum of the exponentials of the first expert and `rest`. -/
def powers (m : Tile F) (rest : Steps) (k : Tile F → Body F) : Body F :=
  power sc ch m 0 (by decide) fun u => write ch 0 (by decide) u (rest.run (addPower sc ch m) u k)

/-- The scores and choices of the groups before the last: each group's largest choice. -/
def firstGroups (inv : Tile F) (k : Tile F → Tile F → Tile F → Tile F → Tile F → Tile F → Tile F → Body F) : Body F :=
  group0.run (chooseFrom sc ch bias inv) fun g0 => group1.run (chooseFrom sc ch bias inv) fun g1 =>
  group2.run (chooseFrom sc ch bias inv) fun g2 => group3.run (chooseFrom sc ch bias inv) fun g3 =>
  group4.run (chooseFrom sc ch bias inv) fun g4 => group5.run (chooseFrom sc ch bias inv) fun g5 =>
  group6.run (chooseFrom sc ch bias inv) fun g6 => k g0 g1 g2 g3 g4 g5 g6

/-- One over the sum. -/
def inverse (total : Tile F) : Tile F := divf (fill 0x3F800000#32) total

/-- The rounds. -/
def rounds : Body F :=
  search sc ch tail fun b => emit ids wts 0 (by decide) b <|
  searchAgain sc ch b.expert tail fun b => emit ids wts 1 (by decide) b <|
  searchAgain sc ch b.expert tail fun b => emit ids wts 2 (by decide) b <|
  searchAgain sc ch b.expert tail fun b => emit ids wts 3 (by decide) b <|
  searchAgain sc ch b.expert tail fun b => emit ids wts 4 (by decide) b <|
  searchAgain sc ch b.expert tail fun b => emit ids wts 5 (by decide) b (.ret ⟨⟩)

/-- Everything after the matrix product. -/
def select6 (xs : Tile F) : Body F :=
  experts.run (logit lt sc alpha xs) fun m => powers sc ch m tail fun total =>
  firstGroups sc ch bias (inverse total) fun g0 g1 g2 g3 g4 g5 g6 => group7.run (chooseFrom sc ch bias (inverse total)) fun g7 =>
  masks ch g0 g1 g2 g3 g4 g5 g6 g7 (rounds sc ch ids wts)

end

/-! ## The matrix product -/

section
variable (x : Memref sig .tc .vmem S8x128x3072 .fp8e4m3) (scale : Memref sig .tc .vmem S8x128 .f32)
  (w : Memref sig .tc .vmem S128x3072 .fp8e4m3) (lt : Memref sig .tc .vmem S1088x128 .f32)

/-- The codes' product: experts by the block's tokens. -/
def product (v : Vec F S8x128x3072 .fp8e4m3) (u : Vec F S128x3072 .fp8e4m3) : FVec F S128x1024 .f32 :=
  matmul dot_S128x3072_S1024x3072_S128x1024_1_1_0_0_n_n none
    (shapeCast S128x3072 u shapeCasts_S128x3072_S128x3072 : FVec F S128x3072 .fp8e4m3)
    (shapeCast S1024x3072 v shapeCasts_S8x128x3072_S1024x3072 : FVec F S1024x3072 .fp8e4m3) (constant S128x1024 .f32 0x00000000#32)

/-- Copy the product's columns from `c` into the rows from `o`. -/
def band (q : FVec F S128x1024 .f32) (o c : ℕ) (ho : ∀ a, (![o, 0] : Fin 2 → Nat) a + S128x128.size a ≤ S1088x128.size a)
    (hc : S128x1024.Slices ![0, c] S128x128) (k : Body F) : Body F :=
  .op (.load lt (Rect.unit (s := S1088x128) ![o, 0] S128x128.size ho).toLoadRect (View.loadsAt_vmem h_S128x128)) fun _ =>
    .op (.store lt (Rect.unit (s := S1088x128) ![o, 0] S128x128.size ho)
      (shapeCast S128x128 (extractStridedSlice S128x128 ![0, c] q hc) shapeCasts_S128x128_S128x128)
      Finset.univ (View.stores_vmem_bits_univ h_S128x128 rfl) (.inl rfl)) fun _ => k

/-- Copy the whole product, 128 tokens at a time. -/
def bands (q : FVec F S128x1024 .f32) (k : Body F) : Body F :=
  band lt q 0 0 inb_S1088x128_S128x128_0_0 slices_S128x1024_o0_0_S128x128 <|
  band lt q 136 128 inb_S1088x128_S128x128_136_0 slices_S128x1024_o0_128_S128x128 <|
  band lt q 272 256 inb_S1088x128_S128x128_272_0 slices_S128x1024_o0_256_S128x128 <|
  band lt q 408 384 inb_S1088x128_S128x128_408_0 slices_S128x1024_o0_384_S128x128 <|
  band lt q 544 512 inb_S1088x128_S128x128_544_0 slices_S128x1024_o0_512_S128x128 <|
  band lt q 680 640 inb_S1088x128_S128x128_680_0 slices_S128x1024_o0_640_S128x128 <|
  band lt q 816 768 inb_S1088x128_S128x128_816_0 slices_S128x1024_o0_768_S128x128 <|
  band lt q 952 896 inb_S1088x128_S128x128_952_0 slices_S128x1024_o0_896_S128x128 k

/-- The product, stored, and the tokens' scales. -/
def start (k : Tile F → Body F) : Body F :=
  .op (.load x (Rect.unit (s := S8x128x3072) ![0, 0, 0] S8x128x3072.size inb_S8x128x3072_S8x128x3072_0_0_0).toLoadRect
    (View.loadsAt_vmem h_S8x128x3072)) fun v =>
  .op (.load w (Rect.unit (s := S128x3072) ![0, 0] S128x3072.size inb_S128x3072_S128x3072_0_0).toLoadRect
    (View.loadsAt_vmem h_S128x3072)) fun u =>
  bands lt (product v u) <|
  .op (.load scale (Rect.unit (s := S8x128) ![0, 0] S8x128.size inb_S8x128_S8x128_0_0).toLoadRect (View.loadsAt_vmem h_S8x128))
    fun (xs : Vec F S8x128 .f32) => k xs

end

end Cert.KernelIdeal.Route
-- ==== Proof.Memory.lean ====
/- What one operation of the kernel does to memory: rules for a load, a store and a scalar load through a memref that is
   owned whole, and arrays of tiles (one tile per expert or per round) under a store of one tile. -/
module

public import proofs.«01_k».proof.Proof.Program
public import Idealize.ShloMosaic.Lib.VecWindow
public import Idealize.ShloMosaic.Lib.Pipeline.Value

@[expose] public section

noncomputable section

namespace Cert.KernelIdeal.Route

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

/-! ## One operation on a memref that is owned -/

section
variable {Ix : Type} [DecidableEq Ix] {Name : Type} [DecidableEq Name] {U : Type} [URA U] {Lvl : Type} [Preorder Lvl]
variable {nD : Nat} {τ : Topo} {sig : RefSig} {Val : EltTy → Type} {Λ : Labels} {defs : Defs nD τ sig Val Λ}
  (𝒱 : Variants) (c : Thread nD τ) (bd : Option 𝒱.V) (E : Set Name) {α : Type} {Q : α → sProp (MT nD τ sig Ix Val Name U Lvl)}
  {s : Shape} {e : EltTy}

/-- A load from an owned memref yields what the memref reads. -/
theorem owns_load {cs : CoreSpace} {m : Memref sig c.2.kind cs s e} {r : LoadRect s} {hl : m.view.LoadsAt r}
    {k : (r.shape.Idx → Val e) → Prog (TpuEff nD τ sig Val Λ c.2) α} {X : s.Idx → Val e} :
    owns c m fullShare X ⊢ iprop((owns c m fullShare X -∗ wp frame (wpE defs 𝒱 c bd) E (k fun x => X (r.idx x)) Q)
      -∗ wp frame (wpE defs 𝒱 c bd) E (.op (.load m r hl) k) Q) := by
  unfold owns
  iintro ⟨%f, %hf, H⟩
  subst hf
  iintro Hk
  iapply (wp_load 𝒱 c bd E (Q := Q) (m := m) (r := r) (hl := hl) (k := k) (q := fullShare) (f := f) (View.setOn_subset_set _ _)) $$ H
  iintro H
  iapply Hk
  iexists f
  isplitr
  · ipureintro; rfl
  iexact H

/-- A scalar load from an owned memref yields what the memref reads there. -/
theorem owns_word {m : Memref sig c.2.kind .smem s e} {r : Rect s} {hw : (m.access r).Loads} {x : r.shape.Idx}
    {k : Val e → Prog (TpuEff nD τ sig Val Λ c.2) α} {X : s.Idx → Val e} :
    owns c m fullShare X ⊢ iprop((owns c m fullShare X -∗ wp frame (wpE defs 𝒱 c bd) E (k (X (r.emb x))) Q)
      -∗ wp frame (wpE defs 𝒱 c bd) E (smemLoadElt m r hw x k) Q) := by
  unfold owns
  iintro ⟨%f, %hf, H⟩
  subst hf
  iintro Hk
  iapply (wp_smemLoadElt 𝒱 c bd E (Q := Q) (m := m) (r := r) (hw := hw) (x := x) (k := k) (q := fullShare) (f := f)
    (View.set_slice_subset _ _)) $$ H
  iintro H
  iapply Hk
  iexists f
  isplitr
  · ipureintro; rfl
  iexact H

/-- A store to an owned memref puts the payload over the window. -/
theorem owns_store {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e} :
    owns c m fullShare X ⊢ iprop((owns c m fullShare (VecWindow.put X off size w) -∗ wp frame (wpE defs 𝒱 c bd) E (k ⟨⟩) Q)
      -∗ wp frame (wpE defs 𝒱 c bd) E (.op (.store m (Rect.unit off size inb) w Finset.univ hx hm) k) Q) := by
  unfold owns
  iintro ⟨%f, %hf, H⟩
  subst hf
  iintro Hk
  iapply (wp_store_writes₀ 𝒱 c bd E (Q := Q) (m := m) (r := Rect.unit off size inb) (w := w) (hx := hx) (hm := hm) (k := k) (f := f)
    (View.set_slice_subset _ _)) $$ H
  iintro H
  iapply Hk
  iexists _
  isplitr
  swap
  · iexact H
  ipureintro
  rw [View.read_writes_cons_put m.view f inb w [] rfl]
  rfl
end

/-! ## Arrays of tiles -/

section
variable {α : Type} {n : ℕ}

/-- A token of the block: its row and its lane. -/
abbrev Token := S8x128.Idx

/-- The array of the tiles `T 0`, `T 1`, … -/
def pack (T : Fin n → Token → α) : (⟨3, ![n, 8, 128]⟩ : Shape).Idx → α :=
  fun z => T (z 0) (fun a => z a.succ)

theorem pack_inside (T : Fin n → Token → α) (e : ℕ) (h : e < n)
    (inb : ∀ a, (![e, 0, 0] : Fin 3 → Nat) a + S1x8x128.size a ≤ (⟨3, ![n, 8, 128]⟩ : Shape).size a) (y : S1x8x128.Idx) :
    pack T ((Rect.unit (s := ⟨3, ![n, 8, 128]⟩) ![e, 0, 0] S1x8x128.size inb).emb y) = T ⟨e, h⟩ (fun a => y a.succ) := by
  have hy : (y 0).val = 0 := by have : (y 0).val < 1 := (y 0).isLt; omega
  unfold pack
  congr 1
  · congr 1
    apply Fin.ext
    show e + 1 * (y 0).val = e
    omega
  · funext a
    apply Fin.ext
    fin_cases a
    · show 0 + 1 * (y 1).val = (y 1).val; omega
    · show 0 + 1 * (y 2).val = (y 2).val; omega

/-- The tile of expert `e`, read. -/
theorem pack_read (T : Fin n → Token → α) (e : ℕ) (h : e < n)
    (inb : ∀ a, (![e, 0, 0] : Fin 3 → Nat) a + S1x8x128.size a ≤ (⟨3, ![n, 8, 128]⟩ : Shape).size a) :
    shapeCast S8x128 (fun y : S1x8x128.Idx => pack T ((Rect.unit (s := ⟨3, ![n, 8, 128]⟩) ![e, 0, 0] S1x8x128.size inb).emb y))
      shapeCasts_S1x8x128_S8x128 = T ⟨e, h⟩ := by
  funext y
  rw [shapeCast_dropUnit_apply (![8, 128] : Fin 2 → ℕ)]
  rw [pack_inside T e h]
  rfl

/-- The array after a store of the tile of expert `e`. -/
theorem pack_put (T : Fin n → Token → α) (e : ℕ) (h : e < n) (v : Token → α) :
    VecWindow.put (pack T) ![e, 0, 0] S1x8x128.size (shapeCast S1x8x128 v shapeCasts_S8x128_S1x8x128)
      = pack (Function.update T ⟨e, h⟩ v) := by
  funext z
  have h1 : (z 1).val < 8 := (z 1).isLt
  have h2 : (z 2).val < 128 := (z 2).isLt
  unfold VecWindow.put
  by_cases hz : (z 0).val = e
  · have hin : ∀ a, (![e, 0, 0] : Fin 3 → Nat) a ≤ (z a).val ∧ (z a).val < (![e, 0, 0] : Fin 3 → Nat) a + S1x8x128.size a := by
      intro a; fin_cases a
      · show e ≤ (z 0).val ∧ (z 0).val < e + 1; omega
      · show 0 ≤ (z 1).val ∧ (z 1).val < 0 + 8; omega
      · show 0 ≤ (z 2).val ∧ (z 2).val < 0 + 128; omega
    rw [dif_pos hin]
    have hz' : z 0 = (⟨e, h⟩ : Fin n) := Fin.ext hz
    have hr : pack (Function.update T ⟨e, h⟩ v) z = v (fun a => z a.succ) := by
      unfold pack; rw [hz', Function.update_self]
    rw [hr]
    refine (shapeCast_addUnit_apply (![8, 128] : Fin 2 → ℕ) v shapeCasts_S8x128_S1x8x128 _).trans ?_
    refine congrArg v (funext fun a => Fin.ext ?_)
    fin_cases a
    · show (z 1).val - 0 = (z 1).val; omega
    · show (z 2).val - 0 = (z 2).val; omega
  · rw [dif_neg]
    · have hz' : (z 0 : Fin n) ≠ ⟨e, h⟩ := fun heq => hz (congrArg Fin.val heq)
      exact (congrFun (Function.update_of_ne hz' v T) _).symm
    · intro hall
      have h0 : e ≤ (z 0).val ∧ (z 0).val < e + 1 := hall 0
      omega
end

/-- Every array is the array of its tiles. -/
theorem exists_pack {α : Type} {n : ℕ} (X : (⟨3, ![n, 8, 128]⟩ : Shape).Idx → α) : ∃ T : Fin n → Token → α, X = pack T :=
  ⟨fun e y => X (Fin.cons e y), funext fun z => congrArg X (funext fun a => by fin_cases a <;> rfl)⟩

end Cert.KernelIdeal.Route
-- ==== Proof.Sem.lean ====
/- Running the kernel's body on a description of its memory: `Good S st p` says that `p`, run from memory `st`, ends as
   claimed. One rule per operation takes it from the memory after the operation to the memory before it. -/
module

public import proofs.«01_k».proof.Proof.Memory
public import Idealize.ShloMosaic.Lib.Pointwise.Index

@[expose] public section

noncomputable section

namespace Cert.KernelIdeal.Route

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]
open Facts₀ Facts

local notation "𝕄" => MT nD τ sig Unit (Elt F) ℕ (UR sig nD τ) ℕ

variable (F) in
/-- The arrays that the body writes: the product's rows, a score and a choice per expert, and the results per round. -/
structure Mem where
  lt : Vec F S1088x128 .f32
  sc : Fin 128 → Tile F
  ch : Fin 128 → Tile F
  ids : Fin 6 → ITile
  wts : Fin 6 → Tile F

variable (F) in
/-- Where the body runs: its memrefs, the arrays that it only reads, and what is to hold at the end. -/
structure Setting where
  core : Dev nD
  mask : Set ℕ
  x : Memref sig .tc .vmem S8x128x3072 .fp8e4m3
  scale : Memref sig .tc .vmem S8x128 .f32
  w : Memref sig .tc .vmem S128x3072 .fp8e4m3
  alpha : Memref sig .tc .smem S128 .f32
  bias : Memref sig .tc .smem S128 .f32
  ids : Memref sig .tc .vmem S6x8x128 .i32
  wts : Memref sig .tc .vmem S6x8x128 .f32
  lt : Memref sig .tc .vmem S1088x128 .f32
  sc : Memref sig .tc .vmem S128x8x128 .f32
  ch : Memref sig .tc .vmem S128x8x128 .f32
  x0 : Vec F S8x128x3072 .fp8e4m3
  x1 : Vec F S8x128 .f32
  x2 : Vec F S128x3072 .fp8e4m3
  x3 : Vec F S128 .f32
  x4 : Vec F S128 .f32
  rest : sProp 𝕄
  post : PUnit → sProp 𝕄

/-- The memory is `st`. -/
def Setting.holds (S : Setting F) (st : Mem F) : sProp 𝕄 :=
  iprop(owns (S.core : Thread nD τ) S.x fullShare S.x0 ∗ owns (S.core : Thread nD τ) S.scale fullShare S.x1
    ∗ owns (S.core : Thread nD τ) S.w fullShare S.x2 ∗ owns (S.core : Thread nD τ) S.alpha fullShare S.x3
    ∗ owns (S.core : Thread nD τ) S.bias fullShare S.x4
    ∗ owns (S.core : Thread nD τ) S.ids fullShare (pack (n := 6) st.ids : Vec F S6x8x128 .i32)
    ∗ owns (S.core : Thread nD τ) S.wts fullShare (pack (n := 6) st.wts : Vec F S6x8x128 .f32)
    ∗ owns (S.core : Thread nD τ) S.lt fullShare st.lt
    ∗ owns (S.core : Thread nD τ) S.sc fullShare (pack (n := 128) st.sc : Vec F S128x8x128 .f32)
    ∗ owns (S.core : Thread nD τ) S.ch fullShare (pack (n := 128) st.ch : Vec F S128x8x128 .f32))

/-- Run from memory `st`, the program `p` ends as claimed. -/
def Good (S : Setting F) (st : Mem F) (p : Body F) : Prop :=
  iprop(S.holds st ∗ S.rest) ⊢ wp frame (wpE (defs₀ (F := F)) Variants.none (S.core : Thread nD τ) none) S.mask p S.post

variable {S : Setting F} {st : Mem F}

/-! ## Reading -/

/-- Token-wise, the rows `e + 136 i` of the product. -/
def rowAt (lt : Vec F S1088x128 .f32) (e : ℕ) (h : e < 128) : Tile F :=
  fun y => lt ((⟨![e, 0], S8x128.size, ![136, 1], insideRows h⟩ : LoadRect S1088x128).idx y)

theorem good_look_sc {e : ℕ} {h : e < 128} {k : Tile F → Body F} (g : Good S st (k (st.sc ⟨e, h⟩))) : Good S st (look S.sc e h k) := by
  rw [← pack_read st.sc e h (inside h)] at g
  unfold Good look lookRaw Setting.holds at *
  iintro ⟨⟨H1, H2, H3, H4, H5, H6, H7, H8, H9, H10⟩, HR⟩
  iapply (owns_load Variants.none (S.core : Thread nD τ) none S.mask) $$ H9
  iintro H9
  iapply g
  iframe

theorem good_look_ch {e : ℕ} {h : e < 128} {k : Tile F → Body F} (g : Good S st (k (st.ch ⟨e, h⟩))) : Good S st (look S.ch e h k) := by
  rw [← pack_read st.ch e h (inside h)] at g
  unfold Good look lookRaw Setting.holds at *
  iintro ⟨⟨H1, H2, H3, H4, H5, H6, H7, H8, H9, H10⟩, HR⟩
  iapply (owns_load Variants.none (S.core : Thread nD τ) none S.mask) $$ H10
  iintro H10
  iapply g
  iframe

theorem good_row {e : ℕ} {h : e < 128} {hl : S.lt.view.LoadsAt (⟨![e, 0], S8x128.size, ![136, 1], insideRows h⟩ : LoadRect S1088x128)}
    {k : Tile F → Body F} (g : Good S st (k (rowAt st.lt e h))) :
    Good S st (.op (.load S.lt (⟨![e, 0], S8x128.size, ![136, 1], insideRows h⟩ : LoadRect S1088x128) hl) fun (v : Vec F S8x128 .f32) => k v) := by
  unfold Good Setting.holds at *
  iintro ⟨⟨H1, H2, H3, H4, H5, H6, H7, H8, H9, H10⟩, HR⟩
  iapply (owns_load Variants.none (S.core : Thread nD τ) none S.mask) $$ H8
  iintro H8
  iapply g
  iframe

theorem word_index (e : ℕ) (h : e < 128) (y : S1.Idx) : (Rect.unit (s := S128) ![e] S1.size (insideWord h)).emb y = ix1 (⟨e, h⟩ : Fin 128) := by
  have hy : (y 0).val = 0 := by have : (y 0).val < 1 := (y 0).isLt; omega
  funext a
  apply Fin.ext
  fin_cases a
  show e + 1 * (y 0).val = e
  omega

theorem good_alpha {e : ℕ} {h : e < 128} {k : Elt F .f32 → Body F} (g : Good S st (k (S.x3 (ix1 (⟨e, h⟩ : Fin 128))))) :
    Good S st (word S.alpha e h k) := by
  rw [← word_index e h (Shape.Idx.first (numel1_S1.symm ▸ Nat.one_pos))] at g
  unfold Good Setting.holds at *
  iintro ⟨⟨H1, H2, H3, H4, H5, H6, H7, H8, H9, H10⟩, HR⟩
  iapply (owns_word Variants.none (S.core : Thread nD τ) none S.mask (m := S.alpha) (r := Rect.unit (s := S128) ![e] S1.size (insideWord h))
    (hw := View.loads_smem_one rfl numel1_S1) (x := Shape.Idx.first (numel1_S1.symm ▸ Nat.one_pos)) (k := k)) $$ H4
  iintro H4
  iapply g
  iframe

theorem good_bias {e : ℕ} {h : e < 128} {k : Elt F .f32 → Body F} (g : Good S st (k (S.x4 (ix1 (⟨e, h⟩ : Fin 128))))) :
    Good S st (word S.bias e h k) := by
  rw [← word_index e h (Shape.Idx.first (numel1_S1.symm ▸ Nat.one_pos))] at g
  unfold Good Setting.holds at *
  iintro ⟨⟨H1, H2, H3, H4, H5, H6, H7, H8, H9, H10⟩, HR⟩
  iapply (owns_word Variants.none (S.core : Thread nD τ) none S.mask (m := S.bias) (r := Rect.unit (s := S128) ![e] S1.size (insideWord h))
    (hw := View.loads_smem_one rfl numel1_S1) (x := Shape.Idx.first (numel1_S1.symm ▸ Nat.one_pos)) (k := k)) $$ H5
  iintro H5
  iapply g
  iframe

/-! ## Writing -/

theorem good_write_sc {e : ℕ} {h : e < 128} {v : Tile F} {k : Body F}
    (g : Good S { st with sc := Function.update st.sc ⟨e, h⟩ v } k) : Good S st (write S.sc e h v k) := by
  unfold Good write writeRaw Setting.holds at *
  iintro ⟨⟨H1, H2, H3, H4, H5, H6, H7, H8, H9, H10⟩, HR⟩
  iapply (owns_store Variants.none (S.core : Thread nD τ) none S.mask) $$ H9
  rw [pack_put (n := 128) st.sc e h v]
  iintro H9
  iapply g
  iframe

theorem good_write_ch {e : ℕ} {h : e < 128} {v : Tile F} {k : Body F}
    (g : Good S { st with ch := Function.update st.ch ⟨e, h⟩ v } k) : Good S st (write S.ch e h v k) := by
  unfold Good write writeRaw Setting.holds at *
  iintro ⟨⟨H1, H2, H3, H4, H5, H6, H7, H8, H9, H10⟩, HR⟩
  iapply (owns_store Variants.none (S.core : Thread nD τ) none S.mask) $$ H10
  rw [pack_put (n := 128) st.ch e h v]
  iintro H10
  iapply g
  iframe

theorem good_put_sc {e : ℕ} {h : e < 128} {v : Tile F} {k : Body F}
    (g : Good S { st with sc := Function.update st.sc ⟨e, h⟩ v } k) : Good S st (put S.sc e h v k) :=
  good_look_sc (k := fun _ => write S.sc e h v k) (good_write_sc g)

theorem good_put_ch {e : ℕ} {h : e < 128} {v : Tile F} {k : Body F}
    (g : Good S { st with ch := Function.update st.ch ⟨e, h⟩ v } k) : Good S st (put S.ch e h v k) :=
  good_look_ch (k := fun _ => write S.ch e h v k) (good_write_ch g)

theorem good_ids {r : ℕ} {h : r < 6} {v : ITile} {k : Body F}
    (g : Good S { st with ids := Function.update st.ids ⟨r, h⟩ v } k) : Good S st (putOut (ty := .i32) rfl S.ids r h v k) := by
  unfold Good putOut Setting.holds at *
  iintro ⟨⟨H1, H2, H3, H4, H5, H6, H7, H8, H9, H10⟩, HR⟩
  iapply (owns_load Variants.none (S.core : Thread nD τ) none S.mask) $$ H6
  iintro H6
  iapply (owns_store Variants.none (S.core : Thread nD τ) none S.mask) $$ H6
  rw [pack_put (n := 6) st.ids r h v]
  iintro H6
  iapply g
  iframe

theorem good_wts {r : ℕ} {h : r < 6} {v : Tile F} {k : Body F}
    (g : Good S { st with wts := Function.update st.wts ⟨r, h⟩ v } k) : Good S st (putOut (ty := .f32) rfl S.wts r h v k) := by
  unfold Good putOut Setting.holds at *
  iintro ⟨⟨H1, H2, H3, H4, H5, H6, H7, H8, H9, H10⟩, HR⟩
  iapply (owns_load Variants.none (S.core : Thread nD τ) none S.mask) $$ H7
  iintro H7
  iapply (owns_store Variants.none (S.core : Thread nD τ) none S.mask) $$ H7
  rw [pack_put (n := 6) st.wts r h v]
  iintro H7
  iapply g
  iframe

/-! ## The product -/

theorem good_band {q : FVec F S128x1024 .f32} {o c : ℕ} {ho : ∀ a, (![o, 0] : Fin 2 → Nat) a + S128x128.size a ≤ S1088x128.size a}
    {hc : S128x1024.Slices ![0, c] S128x128} {k : Body F}
    (g : Good S { st with lt := VecWindow.put st.lt ![o, 0] S128x128.size (extractStridedSlice S128x128 ![0, c] q hc) } k) :
    Good S st (band S.lt q o c ho hc k) := by
  unfold Good band Setting.holds at *
  iintro ⟨⟨H1, H2, H3, H4, H5, H6, H7, H8, H9, H10⟩, HR⟩
  iapply (owns_load Variants.none (S.core : Thread nD τ) none S.mask) $$ H8
  iintro H8
  iapply (owns_store Variants.none (S.core : Thread nD τ) none S.mask) $$ H8
  rw [shapeCast_self]
  iintro H8
  iapply g
  iframe

/-- The rows after all bands are stored. -/
def banded (lt : Vec F S1088x128 .f32) (q : FVec F S128x1024 .f32) : Vec F S1088x128 .f32 :=
  VecWindow.put (VecWindow.put (VecWindow.put (VecWindow.put (VecWindow.put (VecWindow.put (VecWindow.put (VecWindow.put lt
    ![0, 0] S128x128.size (extractStridedSlice S128x128 ![0, 0] q slices_S128x1024_o0_0_S128x128))
    ![136, 0] S128x128.size (extractStridedSlice S128x128 ![0, 128] q slices_S128x1024_o0_128_S128x128))
    ![272, 0] S128x128.size (extractStridedSlice S128x128 ![0, 256] q slices_S128x1024_o0_256_S128x128))
    ![408, 0] S128x128.size (extractStridedSlice S128x128 ![0, 384] q slices_S128x1024_o0_384_S128x128))
    ![544, 0] S128x128.size (extractStridedSlice S128x128 ![0, 512] q slices_S128x1024_o0_512_S128x128))
    ![680, 0] S128x128.size (extractStridedSlice S128x128 ![0, 640] q slices_S128x1024_o0_640_S128x128))
    ![816, 0] S128x128.size (extractStridedSlice S128x128 ![0, 768] q slices_S128x1024_o0_768_S128x128))
    ![952, 0] S128x128.size (extractStridedSlice S128x128 ![0, 896] q slices_S128x1024_o0_896_S128x128)

theorem good_bands {q : FVec F S128x1024 .f32} {k : Body F} (g : Good S { st with lt := banded st.lt q } k) :
    Good S st (bands S.lt q k) := by
  unfold bands
  iterate 8 refine good_band ?_
  exact g

/-- The product and the tokens' scales. -/
theorem good_start {k : Tile F → Body F} (g : Good S { st with lt := banded st.lt (product S.x0 S.x2) } (k S.x1)) :
    Good S st (start S.x S.scale S.w S.lt k) := by
  have hx : ∀ y : S8x128x3072.Idx, (Rect.unit (s := S8x128x3072) ![0, 0, 0] S8x128x3072.size inb_S8x128x3072_S8x128x3072_0_0_0).toLoadRect.idx y = y :=
    Rect.emb_unit_full (s := S8x128x3072) _
  have hw : ∀ y : S128x3072.Idx, (Rect.unit (s := S128x3072) ![0, 0] S128x3072.size inb_S128x3072_S128x3072_0_0).toLoadRect.idx y = y :=
    Rect.emb_unit_full (s := S128x3072) _
  have hs : ∀ y : S8x128.Idx, (Rect.unit (s := S8x128) ![0, 0] S8x128.size inb_S8x128_S8x128_0_0).toLoadRect.idx y = y :=
    Rect.emb_unit_full (s := S8x128) _
  have h : Good S { st with lt := banded st.lt (product S.x0 S.x2) }
      (.op (.load S.scale (Rect.unit (s := S8x128) ![0, 0] S8x128.size inb_S8x128_S8x128_0_0).toLoadRect (View.loadsAt_vmem h_S8x128))
        fun (xs : Vec F S8x128 .f32) => k xs) := by
    unfold Good Setting.holds at *
    iintro ⟨⟨H1, H2, H3, H4, H5, H6, H7, H8, H9, H10⟩, HR⟩
    iapply (owns_load Variants.none (S.core : Thread nD τ) none S.mask) $$ H2
    rw [show (fun y => S.x1 ((Rect.unit (s := S8x128) ![0, 0] S8x128.size inb_S8x128_S8x128_0_0).toLoadRect.idx y)) = S.x1 from
      funext fun y => congrArg S.x1 (hs y)]
    iintro H2
    iapply g
    iframe
  have h' := good_bands (q := product S.x0 S.x2) h
  unfold Good start Setting.holds at *
  iintro ⟨⟨H1, H2, H3, H4, H5, H6, H7, H8, H9, H10⟩, HR⟩
  iapply (owns_load Variants.none (S.core : Thread nD τ) none S.mask) $$ H1
  rw [show (fun y => S.x0 ((Rect.unit (s := S8x128x3072) ![0, 0, 0] S8x128x3072.size inb_S8x128x3072_S8x128x3072_0_0_0).toLoadRect.idx y)) = S.x0 from
    funext fun y => congrArg S.x0 (hx y)]
  iintro H1
  iapply (owns_load Variants.none (S.core : Thread nD τ) none S.mask) $$ H3
  rw [show (fun y => S.x2 ((Rect.unit (s := S128x3072) ![0, 0] S128x3072.size inb_S128x3072_S128x3072_0_0).toLoadRect.idx y)) = S.x2 from
    funext fun y => congrArg S.x2 (hw y)]
  iintro H3
  iapply h'
  iframe

end Cert.KernelIdeal.Route
-- ==== Proof.Loops.lean ====
/- The loops of the kernel's body. Each loop visits the experts in order and replaces one tile per expert, so the memory
   in the middle of a loop is new before an expert and old from it on (`mix`). -/
module

public import proofs.«01_k».proof.Proof.Sem

@[expose] public section

noncomputable section

namespace Cert.KernelIdeal.Route

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Experts in order -/

/-- The block's experts are `a`, …, `c - 1` in this order. -/
inductive Block.Spans : Block → ℕ → ℕ → Prop
  | leaf (e : ℕ) (h : e < 128) : Block.Spans (.leaf e h) e (e + 1)
  | node {l r : Block} {a b c : ℕ} : Block.Spans l a b → Block.Spans r b c → Block.Spans (.node l r) a c

/-- The list's experts are `a`, …, `c - 1` in this order. -/
inductive Steps.Spans : Steps → ℕ → ℕ → Prop
  | done (a : ℕ) : Steps.Spans .done a a
  | next (e : ℕ) (h : e < 128) {s : Steps} {c : ℕ} : Steps.Spans s (e + 1) c → Steps.Spans (.next e h s) e c

theorem Block.Spans.steps {b : Block} {a c : ℕ} (hb : b.Spans a c) : ∀ {s : Steps} {d : ℕ}, s.Spans c d → (b.steps s).Spans a d := by
  induction hb with
  | leaf e h => exact fun hs => .next e h hs
  | node _ _ hl hr => exact fun hs => hl (hr hs)

theorem Steps.Spans.le {s : Steps} {a c : ℕ} (hs : s.Spans a c) : a ≤ c := by
  induction hs with
  | done => exact le_rfl
  | next e h _ ih => omega

theorem quad_spans (a b c d : ℕ) (ha : a < 128) (hb : b < 128) (hc : c < 128) (hd : d < 128) (h1 : b = a + 1) (h2 : c = b + 1)
    (h3 : d = c + 1) : (quad a b c d ha hb hc hd).Spans a (d + 1) := by
  subst h1; subst h2; subst h3
  exact .node (.node (.leaf _ _) (.leaf _ _)) (.node (.leaf _ _) (.leaf _ _))

theorem group0_spans : group0.Spans 0 16 := .node (.node (quad_spans _ _ _ _ _ _ _ _ rfl rfl rfl) (quad_spans _ _ _ _ _ _ _ _ rfl rfl rfl)) (.node (quad_spans _ _ _ _ _ _ _ _ rfl rfl rfl) (quad_spans _ _ _ _ _ _ _ _ rfl rfl rfl))
theorem group1_spans : group1.Spans 16 32 := .node (.node (quad_spans _ _ _ _ _ _ _ _ rfl rfl rfl) (quad_spans _ _ _ _ _ _ _ _ rfl rfl rfl)) (.node (quad_spans _ _ _ _ _ _ _ _ rfl rfl rfl) (quad_spans _ _ _ _ _ _ _ _ rfl rfl rfl))
theorem group2_spans : group2.Spans 32 48 := .node (.node (quad_spans _ _ _ _ _ _ _ _ rfl rfl rfl) (quad_spans _ _ _ _ _ _ _ _ rfl rfl rfl)) (.node (quad_spans _ _ _ _ _ _ _ _ rfl rfl rfl) (quad_spans _ _ _ _ _ _ _ _ rfl rfl rfl))
theorem group3_spans : group3.Spans 48 64 := .node (.node (quad_spans _ _ _ _ _ _ _ _ rfl rfl rfl) (quad_spans _ _ _ _ _ _ _ _ rfl rfl rfl)) (.node (quad_spans _ _ _ _ _ _ _ _ rfl rfl rfl) (quad_spans _ _ _ _ _ _ _ _ rfl rfl rfl))
theorem group4_spans : group4.Spans 64 80 := .node (.node (quad_spans _ _ _ _ _ _ _ _ rfl rfl rfl) (quad_spans _ _ _ _ _ _ _ _ rfl rfl rfl)) (.node (quad_spans _ _ _ _ _ _ _ _ rfl rfl rfl) (quad_spans _ _ _ _ _ _ _ _ rfl rfl rfl))
theorem group5_spans : group5.Spans 80 96 := .node (.node (quad_spans _ _ _ _ _ _ _ _ rfl rfl rfl) (quad_spans _ _ _ _ _ _ _ _ rfl rfl rfl)) (.node (quad_spans _ _ _ _ _ _ _ _ rfl rfl rfl) (quad_spans _ _ _ _ _ _ _ _ rfl rfl rfl))
theorem group6_spans : group6.Spans 96 112 := .node (.node (quad_spans _ _ _ _ _ _ _ _ rfl rfl rfl) (quad_spans _ _ _ _ _ _ _ _ rfl rfl rfl)) (.node (quad_spans _ _ _ _ _ _ _ _ rfl rfl rfl) (quad_spans _ _ _ _ _ _ _ _ rfl rfl rfl))
theorem group7_spans : group7.Spans 112 128 := .node (.node (quad_spans _ _ _ _ _ _ _ _ rfl rfl rfl) (quad_spans _ _ _ _ _ _ _ _ rfl rfl rfl)) (.node (quad_spans _ _ _ _ _ _ _ _ rfl rfl rfl) (quad_spans _ _ _ _ _ _ _ _ rfl rfl rfl))

theorem experts_spans : experts.Spans 0 128 :=
  .node (.node (.node group0_spans group1_spans) (.node group2_spans group3_spans))
    (.node (.node group4_spans group5_spans) (.node group6_spans group7_spans))

theorem tail_spans : tail.Spans 1 128 := by
  have h := experts_spans.steps (.done 128)
  have e : experts.steps .done = .next 0 (by decide) tail := rfl
  rw [e] at h
  cases h with
  | next _ _ h => exact h

variable {F : FTy → Type} [FloatOps F] [Facts]
open Facts₀ Facts

/-- The maximum of a block's tiles, taken as the kernel takes it. -/
def Block.top (L : Fin 128 → Tile F) : Block → Tile F
  | .leaf e h => L ⟨e, h⟩
  | .node l r => maximumf (l.top L) (r.top L)

/-- A value carried through a list of experts. -/
def Steps.fold {α : Type} (step : Fin 128 → α → α) : Steps → α → α
  | .done, a => a
  | .next e h s, a => s.fold step (step ⟨e, h⟩ a)

/-! ## The rules for the loops -/

section
variable {S : Setting F}

theorem good_block {body : (e : ℕ) → e < 128 → (Tile F → Body F) → Body F} {state : ℕ → Mem F} {L : Fin 128 → Tile F}
    (hb : ∀ e h k, Good S (state (e + 1)) (k (L ⟨e, h⟩)) → Good S (state e) (body e h k)) {b : Block} {a c : ℕ} (hs : b.Spans a c) :
    ∀ {k : Tile F → Body F}, Good S (state c) (k (b.top L)) → Good S (state a) (b.run body k) := by
  induction hs with
  | leaf e h => exact fun {k} g => hb e h k g
  | node _ _ hl hr => exact fun {k} g => hl (hr g)

theorem good_steps {α : Type} {body : (e : ℕ) → e < 128 → α → (α → Body F) → Body F} {state : ℕ → Mem F} {step : Fin 128 → α → α}
    {s : Steps} {a c : ℕ} (hs : s.Spans a c) :
    (∀ e h x k, a ≤ e → e < c → Good S (state (e + 1)) (k (step ⟨e, h⟩ x)) → Good S (state e) (body e h x k)) →
    ∀ {x : α} {k : α → Body F}, Good S (state c) (k (s.fold step x)) → Good S (state a) (s.run body x k) := by
  induction hs with
  | done => exact fun _ _ _ g => g
  | next e h hs ih =>
    have := hs.le
    exact fun hb _ _ g => hb _ _ _ _ le_rfl (by omega) (ih (fun e' h' x k h1 h2 => hb e' h' x k (by omega) h2) g)

/-- New tiles before expert `n`, old ones from it on. -/
def mix {α : Type} (n : ℕ) (new old : Fin 128 → α) : Fin 128 → α := fun e => if e.val < n then new e else old e

theorem mix_zero {α : Type} (new old : Fin 128 → α) : mix 0 new old = old := rfl

theorem mix_all {α : Type} (new old : Fin 128 → α) : mix 128 new old = new :=
  funext fun e => if_pos e.isLt

theorem mix_at {α : Type} (n : ℕ) (h : n < 128) (new old : Fin 128 → α) : mix n new old ⟨n, h⟩ = old ⟨n, h⟩ :=
  if_neg (lt_irrefl n)

theorem mix_next {α : Type} (n : ℕ) (h : n < 128) (new old : Fin 128 → α) (v : α) (hv : v = new ⟨n, h⟩) :
    Function.update (mix n new old) ⟨n, h⟩ v = mix (n + 1) new old := by
  subst hv
  funext e
  by_cases he : e = ⟨n, h⟩
  · subst he; rw [Function.update_self]; exact (if_pos (Nat.lt_succ_self n)).symm
  · rw [Function.update_of_ne he]
    have hn : e.val ≠ n := fun hn => he (Fin.ext hn)
    unfold mix
    by_cases hlt : e.val < n
    · rw [if_pos hlt, if_pos (by omega)]
    · rw [if_neg hlt, if_neg (by omega)]
end

/-! ## The values -/

/-- Every expert's logits. -/
def logitsOf (rows : Fin 128 → Tile F) (xs : Tile F) (alpha : Vec F S128 .f32) (e : Fin 128) : Tile F :=
  mulf (mulf (rows e) xs) (broadcast S8x128 (alpha (ix1 e)))
/-- Every expert's exponentials. -/
def powersOf (L : Fin 128 → Tile F) (m : Tile F) (e : Fin 128) : Tile F := exp (subf (L e) m)
/-- Their sum. -/
def totalOf (U : Fin 128 → Tile F) : Tile F := tail.fold (fun e t => addf t (U e)) (U 0)
/-- Every expert's scores. -/
def scoresOf (U : Fin 128 → Tile F) (inv : Tile F) (e : Fin 128) : Tile F := mulf (U e) inv
/-- Every expert's choices. -/
def choicesOf (bias : Vec F S128 .f32) (s : Fin 128 → Tile F) (e : Fin 128) : Tile F := addf (s e) (broadcast S8x128 (bias (ix1 e)))
/-- Which groups are among the best, from the groups' largest choices. -/
def winsOf (g0 g1 g2 g3 g4 g5 g6 g7 : Tile F) : ℕ → IVec S8x128 1
  | 0 => wins [] [g1, g2, g3, g4, g5, g6, g7] g0
  | 1 => wins [g0] [g2, g3, g4, g5, g6, g7] g1
  | 2 => wins [g0, g1] [g3, g4, g5, g6, g7] g2
  | 3 => wins [g0, g1, g2] [g4, g5, g6, g7] g3
  | 4 => wins [g0, g1, g2, g3] [g5, g6, g7] g4
  | 5 => wins [g0, g1, g2, g3, g4] [g6, g7] g5
  | 6 => wins [g0, g1, g2, g3, g4, g5] [g7] g6
  | _ => wins [g0, g1, g2, g3, g4, g5, g6] [] g7
/-- The choices with the other groups' at −∞. -/
def maskedOf (c : Fin 128 → Tile F) (e : Fin 128) : Tile F :=
  select (winsOf (group0.top c) (group1.top c) (group2.top c) (group3.top c) (group4.top c) (group5.top c) (group6.top c) (group7.top c) (e.val / 16))
    (c e) (fill 0xFF800000#32)
/-- What a round finds. -/
def seek (c s : Fin 128 → Tile F) : Best F :=
  tail.fold (fun e b => b.meet e.val (c e) (s e)) ⟨c 0, broadcast S8x128 0#32, s 0⟩
/-- The choices left for round `r`. -/
def left (s c : Fin 128 → Tile F) : ℕ → Fin 128 → Tile F
  | 0 => c
  | r + 1 => fun e => struck (seek (left s c r) s).expert e.val (left s c r e)
/-- What round `r` finds. -/
def found (s c : Fin 128 → Tile F) (r : ℕ) : Best F := seek (left s c r) s

/-! ## The phases -/

section
attribute [local irreducible] tail experts
variable {S : Setting F}

theorem good_logits {lt : Vec F S1088x128 .f32} {sc ch : Fin 128 → Tile F} {ids : Fin 6 → ITile} {wts : Fin 6 → Tile F} {xs : Tile F}
    {k : Tile F → Body F}
    (g : Good S ⟨lt, logitsOf (fun e => rowAt lt e.val e.isLt) xs S.x3, ch, ids, wts⟩
      (k (experts.top (logitsOf (fun e => rowAt lt e.val e.isLt) xs S.x3)))) :
    Good S ⟨lt, sc, ch, ids, wts⟩ (experts.run (logit S.lt S.sc S.alpha xs) k) := by
  refine good_block (state := fun n => ⟨lt, mix n (logitsOf (fun e => rowAt lt e.val e.isLt) xs S.x3) sc, ch, ids, wts⟩)
    (L := logitsOf (fun e => rowAt lt e.val e.isLt) xs S.x3) ?_ experts_spans ?_
  · intro e h k g
    unfold logit
    refine good_row (h := h) (k := fun v => word S.alpha e h fun a => keepIn S.sc e h (mulf (mulf v xs) (broadcast S8x128 a)) k) ?_
    refine good_alpha (good_put_sc ?_)
    rw [← mix_next e h (logitsOf (fun e => rowAt lt e.val e.isLt) xs S.x3) _ _ rfl] at g
    exact g
  · rw [mix_all]; exact g

theorem good_powers {lt : Vec F S1088x128 .f32} {sc ch : Fin 128 → Tile F} {ids : Fin 6 → ITile} {wts : Fin 6 → Tile F} {m : Tile F}
    {k : Tile F → Body F} (g : Good S ⟨lt, sc, powersOf sc m, ids, wts⟩ (k (totalOf (powersOf sc m)))) :
    Good S ⟨lt, sc, ch, ids, wts⟩ (powers S.sc S.ch m tail k) := by
  have first : Function.update ch ⟨0, by decide⟩ (powersOf sc m ⟨0, by decide⟩) = mix 1 (powersOf sc m) ch :=
    mix_next 0 (by decide) _ _ _ rfl
  unfold powers power
  refine good_look_sc (good_look_ch (good_write_ch ?_))
  dsimp only
  have go : Good S ⟨lt, sc, mix 1 (powersOf sc m) ch, ids, wts⟩
      (tail.run (addPower S.sc S.ch m) (powersOf sc m ⟨0, by decide⟩) k) := by
    refine good_steps (state := fun n => ⟨lt, sc, mix n (powersOf sc m) ch, ids, wts⟩) (step := fun e t => addf t (powersOf sc m e))
      tail_spans ?_ ?_
    · intro e h x k _ _ g
      unfold addPower power
      refine good_look_sc (good_look_ch (good_write_ch ?_))
      rw [← mix_next e h (powersOf sc m) _ _ rfl] at g
      exact g
    · rw [mix_all]; exact g
  rw [← first] at go
  exact go

theorem good_choices {lt : Vec F S1088x128 .f32} {sc ch : Fin 128 → Tile F} {ids : Fin 6 → ITile} {wts : Fin 6 → Tile F} {inv : Tile F}
    {b : Block} {a c : ℕ} (hb : b.Spans a c) {k : Tile F → Body F}
    (g : Good S ⟨lt, mix c (scoresOf ch inv) sc, mix c (choicesOf S.x4 (scoresOf ch inv)) ch, ids, wts⟩
      (k (b.top (choicesOf S.x4 (scoresOf ch inv))))) :
    Good S ⟨lt, mix a (scoresOf ch inv) sc, mix a (choicesOf S.x4 (scoresOf ch inv)) ch, ids, wts⟩
      (b.run (chooseFrom S.sc S.ch S.bias inv) k) := by
  refine good_block (state := fun n => ⟨lt, mix n (scoresOf ch inv) sc, mix n (choicesOf S.x4 (scoresOf ch inv)) ch, ids, wts⟩)
    (L := choicesOf S.x4 (scoresOf ch inv)) ?_ hb g
  intro e h k g
  unfold chooseFrom
  refine good_look_ch ?_
  dsimp only
  rw [mix_at]
  unfold choose
  refine good_put_sc (good_bias (good_put_ch ?_))
  rw [← mix_next e h (scoresOf ch inv) _ _ rfl, ← mix_next e h (choicesOf S.x4 (scoresOf ch inv)) _ _ rfl] at g
  exact g

theorem good_mask {lt : Vec F S1088x128 .f32} {sc c : Fin 128 → Tile F} {ids : Fin 6 → ITile} {wts : Fin 6 → Tile F}
    {new : Fin 128 → Tile F} {keep : IVec S8x128 1} {b : Block} {lo hi : ℕ} (hb : b.Spans lo hi)
    (hnew : ∀ e : Fin 128, lo ≤ e.val → e.val < hi → new e = select keep (c e) (fill 0xFF800000#32)) {k : Unit → Body F}
    (g : Good S ⟨lt, sc, mix hi new c, ids, wts⟩ (k ())) :
    Good S ⟨lt, sc, mix lo new c, ids, wts⟩ ((b.steps .done).run (mask S.ch keep) () k) := by
  refine good_steps (state := fun n => ⟨lt, sc, mix n new c, ids, wts⟩) (step := fun _ x => x) (hb.steps (.done hi)) ?_ g
  intro e h x k h1 h2 g
  unfold mask
  refine good_look_ch ?_
  dsimp only
  rw [mix_at]
  refine good_put_ch ?_
  dsimp only
  rw [mix_next e h new _ _ (hnew ⟨e, h⟩ h1 h2).symm]
  exact g

theorem good_masks {lt : Vec F S1088x128 .f32} {sc c : Fin 128 → Tile F} {ids : Fin 6 → ITile} {wts : Fin 6 → Tile F} {k : Body F}
    (g : Good S ⟨lt, sc, maskedOf c, ids, wts⟩ k) :
    Good S ⟨lt, sc, c, ids, wts⟩ (masks S.ch (group0.top c) (group1.top c) (group2.top c) (group3.top c) (group4.top c) (group5.top c)
      (group6.top c) (group7.top c) k) := by
  have group : ∀ {e : Fin 128} (n : ℕ), 16 * n ≤ e.val → e.val < 16 * n + 16 → e.val / 16 = n := fun n h1 h2 => by omega
  rw [show c = mix 0 (maskedOf c) c from rfl]
  refine good_mask group0_spans (fun e h1 h2 => by unfold maskedOf; rw [group 0 h1 h2]; rfl) ?_
  refine good_mask group1_spans (fun e h1 h2 => by unfold maskedOf; rw [group 1 h1 h2]; rfl) ?_
  refine good_mask group2_spans (fun e h1 h2 => by unfold maskedOf; rw [group 2 h1 h2]; rfl) ?_
  refine good_mask group3_spans (fun e h1 h2 => by unfold maskedOf; rw [group 3 h1 h2]; rfl) ?_
  refine good_mask group4_spans (fun e h1 h2 => by unfold maskedOf; rw [group 4 h1 h2]; rfl) ?_
  refine good_mask group5_spans (fun e h1 h2 => by unfold maskedOf; rw [group 5 h1 h2]; rfl) ?_
  refine good_mask group6_spans (fun e h1 h2 => by unfold maskedOf; rw [group 6 h1 h2]; rfl) ?_
  refine good_mask group7_spans (fun e h1 h2 => by unfold maskedOf; rw [group 7 h1 h2]; rfl) ?_
  rw [mix_all]; exact g

theorem good_search {st : Mem F} {k : Best F → Body F} (g : Good S st (k (seek st.ch st.sc))) : Good S st (search S.sc S.ch tail k) := by
  unfold search
  refine good_look_ch (good_look_sc ?_)
  unfold seek at g
  refine good_steps (state := fun _ => st) (step := fun e b => b.meet e.val (st.ch e) (st.sc e)) tail_spans ?_ g
  intro e h x k _ _ g
  unfold meet
  exact good_look_ch (good_look_sc g)

theorem good_searchAgain {lt : Vec F S1088x128 .f32} {sc c : Fin 128 → Tile F} {ids : Fin 6 → ITile} {wts : Fin 6 → Tile F} {prev : ITile}
    {k : Best F → Body F}
    (g : Good S ⟨lt, sc, fun e => struck prev e.val (c e), ids, wts⟩ (k (seek (fun e => struck prev e.val (c e)) sc))) :
    Good S ⟨lt, sc, c, ids, wts⟩ (searchAgain S.sc S.ch prev tail k) := by
  have first : Function.update c ⟨0, by decide⟩ (struck prev 0 (c ⟨0, by decide⟩)) = mix 1 (fun e => struck prev e.val (c e)) c :=
    mix_next 0 (by decide) (fun e => struck prev e.val (c e)) c _ rfl
  unfold searchAgain
  refine good_look_ch (good_put_ch (good_look_sc ?_))
  dsimp only
  rw [first]
  unfold seek at g
  refine good_steps (state := fun n => ⟨lt, sc, mix n (fun e => struck prev e.val (c e)) c, ids, wts⟩)
    (step := fun e b => b.meet e.val (struck prev e.val (c e)) (sc e)) tail_spans ?_ ?_
  · intro e h x k _ _ g
    unfold meetAgain
    refine good_look_ch ?_
    dsimp only
    rw [mix_at]
    refine good_put_ch ?_
    dsimp only
    rw [mix_next e h (fun e => struck prev e.val (c e)) _ _ rfl]
    exact good_look_sc g
  · rw [mix_all]; exact g

theorem good_emit {lt : Vec F S1088x128 .f32} {sc c : Fin 128 → Tile F} {ids : Fin 6 → ITile} {wts : Fin 6 → Tile F} {r : ℕ} {h : r < 6}
    {b : Best F} {k : Body F}
    (g : Good S ⟨lt, sc, c, Function.update ids ⟨r, h⟩ b.expert, Function.update wts ⟨r, h⟩ (mulf b.score (fill 0x40200000#32))⟩ k) :
    Good S ⟨lt, sc, c, ids, wts⟩ (emit S.ids S.wts r h b k) :=
  good_ids (good_wts g)

theorem update_six {α : Type} (f g : Fin 6 → α) :
    Function.update (Function.update (Function.update (Function.update (Function.update (Function.update f ⟨0, by decide⟩ (g 0)) ⟨1, by decide⟩ (g 1))
      ⟨2, by decide⟩ (g 2)) ⟨3, by decide⟩ (g 3)) ⟨4, by decide⟩ (g 4)) ⟨5, by decide⟩ (g 5) = g := by
  funext r
  fin_cases r <;> rfl

theorem good_rounds {lt : Vec F S1088x128 .f32} {sc c : Fin 128 → Tile F} {ids : Fin 6 → ITile} {wts : Fin 6 → Tile F}
    (g : Good S ⟨lt, sc, left sc c 5, fun r => (found sc c r.val).expert, fun r => mulf (found sc c r.val).score (fill 0x40200000#32)⟩ (.ret ⟨⟩)) :
    Good S ⟨lt, sc, c, ids, wts⟩ (rounds S.sc S.ch S.ids S.wts) := by
  refine good_search (good_emit ?_)
  refine good_searchAgain (good_emit ?_)
  refine good_searchAgain (good_emit ?_)
  refine good_searchAgain (good_emit ?_)
  refine good_searchAgain (good_emit ?_)
  refine good_searchAgain (good_emit ?_)
  have e1 := update_six ids fun r => (found sc c r.val).expert
  have e2 := update_six wts fun r => mulf (found sc c r.val).score (fill 0x40200000#32)
  rw [← e1, ← e2] at g
  exact g

/-- Everything after the product. -/
theorem good_select6 {lt : Vec F S1088x128 .f32} {sc ch : Fin 128 → Tile F} {ids : Fin 6 → ITile} {wts : Fin 6 → Tile F} {xs : Tile F}
    (L U s c : Fin 128 → Tile F) (hL : L = logitsOf (fun e => rowAt lt e.val e.isLt) xs S.x3) (hU : U = powersOf L (experts.top L))
    (hs : s = scoresOf U (inverse (totalOf U))) (hc : c = maskedOf (choicesOf S.x4 s))
    (g : Good S ⟨lt, s, left s c 5, fun r => (found s c r.val).expert, fun r => mulf (found s c r.val).score (fill 0x40200000#32)⟩ (.ret ⟨⟩)) :
    Good S ⟨lt, sc, ch, ids, wts⟩ (select6 S.lt S.sc S.ch S.alpha S.bias S.ids S.wts xs) := by
  subst hL hU hs hc
  refine good_logits (good_powers ?_)
  generalize logitsOf (fun e => rowAt lt e.val e.isLt) xs S.x3 = L at *
  generalize powersOf L (experts.top L) = U at *
  have begin0 : (⟨lt, L, U, ids, wts⟩ : Mem F)
    = ⟨lt, mix 0 (scoresOf U (inverse (totalOf U))) L, mix 0 (choicesOf S.x4 (scoresOf U (inverse (totalOf U)))) U, ids, wts⟩ := rfl
  rw [begin0]
  refine good_choices group0_spans (good_choices group1_spans (good_choices group2_spans (good_choices group3_spans
    (good_choices group4_spans (good_choices group5_spans (good_choices group6_spans (good_choices group7_spans ?_)))))))
  rw [mix_all, mix_all]
  exact good_masks (good_rounds g)
end

end Cert.KernelIdeal.Route
-- ==== Proof.PartsA.lean ====
/- The printed body's parts are the loops' pieces, by unfolding: parts 501 of the printed text. -/
module

public import proofs.«01_k».proof.Proof.Program

@[expose] public section

set_option maxRecDepth 100000
set_option maxHeartbeats 4000000

noncomputable section

namespace Cert.KernelIdeal.Route

open Idealize.ShloMosaic Idealize.SL.Sem

variable {F : FTy → Type} [FloatOps F] [Facts]
variable (i : grid0.Coords)
  (arg1 : Memref sig .tc .vmem S8x128x3072 .fp8e4m3) (harg1 : arg1.IsWhole) (arg2 : Memref sig .tc .vmem S8x128 .f32) (harg2 : arg2.IsWhole)
  (arg3 : Memref sig .tc .vmem S128x3072 .fp8e4m3) (harg3 : arg3.IsWhole) (arg4 : Memref sig .tc .smem S128 .f32) (harg4 : arg4.IsWhole)
  (arg5 : Memref sig .tc .smem S128 .f32) (harg5 : arg5.IsWhole) (arg6 : Memref sig .tc .vmem S6x8x128 .i32) (harg6 : arg6.IsWhole)
  (arg7 : Memref sig .tc .vmem S6x8x128 .f32) (harg7 : arg7.IsWhole) (arg8 : Memref sig .tc .vmem S1088x128 .f32) (harg8 : arg8.IsWhole)
  (arg9 : Memref sig .tc .vmem S128x8x128 .f32) (harg9 : arg9.IsWhole) (arg10 : Memref sig .tc .vmem S128x8x128 .f32) (harg10 : arg10.IsWhole)

/-- The product, the logits, and the exponentials up to expert 98. -/
theorem part501_eq  (k : _ → Body F) :
    Bind.bind (k0_part501 i arg1 harg1 arg2 harg2 arg3 harg3 arg4 harg4 arg5 harg5 arg6 harg6 arg7 harg7 arg8 harg8 arg9 harg9 arg10 harg10 ) k =
      start arg1 arg2 arg3 arg8 fun xs => experts.run (logit arg8 arg9 arg4 xs) fun m =>
      powers arg9 arg10 m (tail.take 97) fun total => power arg9 arg10 m 98 (by decide) fun u =>
      k ⟨m, total, u, shapeCast S1x8x128 u Facts₀.shapeCasts_S8x128_S1x8x128⟩ := rfl

end Cert.KernelIdeal.Route
-- ==== Proof.PartsB.lean ====
/- The printed body's parts are the loops' pieces, by unfolding: parts 502 of the printed text. -/
module

public import proofs.«01_k».proof.Proof.Program

@[expose] public section

set_option maxRecDepth 100000
set_option maxHeartbeats 4000000

noncomputable section

namespace Cert.KernelIdeal.Route

open Idealize.ShloMosaic Idealize.SL.Sem

variable {F : FTy → Type} [FloatOps F] [Facts]
variable (i : grid0.Coords)
  (arg1 : Memref sig .tc .vmem S8x128x3072 .fp8e4m3) (harg1 : arg1.IsWhole) (arg2 : Memref sig .tc .vmem S8x128 .f32) (harg2 : arg2.IsWhole)
  (arg3 : Memref sig .tc .vmem S128x3072 .fp8e4m3) (harg3 : arg3.IsWhole) (arg4 : Memref sig .tc .smem S128 .f32) (harg4 : arg4.IsWhole)
  (arg5 : Memref sig .tc .smem S128 .f32) (harg5 : arg5.IsWhole) (arg6 : Memref sig .tc .vmem S6x8x128 .i32) (harg6 : arg6.IsWhole)
  (arg7 : Memref sig .tc .vmem S6x8x128 .f32) (harg7 : arg7.IsWhole) (arg8 : Memref sig .tc .vmem S1088x128 .f32) (harg8 : arg8.IsWhole)
  (arg9 : Memref sig .tc .vmem S128x8x128 .f32) (harg9 : arg9.IsWhole) (arg10 : Memref sig .tc .vmem S128x8x128 .f32) (harg10 : arg10.IsWhole)

/-- The other exponentials, then the choices up to expert 127's score. -/
theorem part502_eq (m total u : Tile F) (v : Vec F S1x8x128 .f32) (k : _ → Body F) :
    Bind.bind (k0_part502 i arg1 harg1 arg2 harg2 arg3 harg3 arg4 harg4 arg5 harg5 arg6 harg6 arg7 harg7 arg8 harg8 arg9 harg9 arg10 harg10 m total u v) k =
      writeRaw arg10 98 (by decide) v ((tail.drop 98).run (addPower arg9 arg10 m) (addf total u) fun total =>
      firstGroups arg9 arg10 arg5 (inverse total) fun g0 g1 g2 g3 g4 g5 g6 =>
      chooseFrom arg9 arg10 arg5 (inverse total) 112 (by decide) fun c112 =>
      chooseFrom arg9 arg10 arg5 (inverse total) 113 (by decide) fun c113 =>
      chooseFrom arg9 arg10 arg5 (inverse total) 114 (by decide) fun c114 =>
      chooseFrom arg9 arg10 arg5 (inverse total) 115 (by decide) fun c115 =>
      chooseFrom arg9 arg10 arg5 (inverse total) 116 (by decide) fun c116 =>
      chooseFrom arg9 arg10 arg5 (inverse total) 117 (by decide) fun c117 =>
      chooseFrom arg9 arg10 arg5 (inverse total) 118 (by decide) fun c118 =>
      chooseFrom arg9 arg10 arg5 (inverse total) 119 (by decide) fun c119 =>
      chooseFrom arg9 arg10 arg5 (inverse total) 120 (by decide) fun c120 =>
      chooseFrom arg9 arg10 arg5 (inverse total) 121 (by decide) fun c121 =>
      chooseFrom arg9 arg10 arg5 (inverse total) 122 (by decide) fun c122 =>
      chooseFrom arg9 arg10 arg5 (inverse total) 123 (by decide) fun c123 =>
      chooseFrom arg9 arg10 arg5 (inverse total) 124 (by decide) fun c124 =>
      chooseFrom arg9 arg10 arg5 (inverse total) 125 (by decide) fun c125 =>
      chooseFrom arg9 arg10 arg5 (inverse total) 126 (by decide) fun c126 =>
      look arg10 127 (by decide) fun u => k ⟨g0, g1, g2, g3, g4, g5, g6, c112, c113, c114, c115, c116, c117, c118, c119, c120, c121, c122, c123, c124, c125, c126, mulf u (inverse total)⟩) := rfl

end Cert.KernelIdeal.Route
-- ==== Proof.PartsC.lean ====
/- The printed body's parts are the loops' pieces, by unfolding: parts 503 of the printed text. -/
module

public import proofs.«01_k».proof.Proof.Program

@[expose] public section

set_option maxRecDepth 100000
set_option maxHeartbeats 4000000

noncomputable section

namespace Cert.KernelIdeal.Route

open Idealize.ShloMosaic Idealize.SL.Sem

variable {F : FTy → Type} [FloatOps F] [Facts]
variable (i : grid0.Coords)
  (arg1 : Memref sig .tc .vmem S8x128x3072 .fp8e4m3) (harg1 : arg1.IsWhole) (arg2 : Memref sig .tc .vmem S8x128 .f32) (harg2 : arg2.IsWhole)
  (arg3 : Memref sig .tc .vmem S128x3072 .fp8e4m3) (harg3 : arg3.IsWhole) (arg4 : Memref sig .tc .smem S128 .f32) (harg4 : arg4.IsWhole)
  (arg5 : Memref sig .tc .smem S128 .f32) (harg5 : arg5.IsWhole) (arg6 : Memref sig .tc .vmem S6x8x128 .i32) (harg6 : arg6.IsWhole)
  (arg7 : Memref sig .tc .vmem S6x8x128 .f32) (harg7 : arg7.IsWhole) (arg8 : Memref sig .tc .vmem S1088x128 .f32) (harg8 : arg8.IsWhole)
  (arg9 : Memref sig .tc .vmem S128x8x128 .f32) (harg9 : arg9.IsWhole) (arg10 : Memref sig .tc .vmem S128x8x128 .f32) (harg10 : arg10.IsWhole)

/-- The last choice, the masks, and the first search up to expert 90. -/
theorem part503_eq (g0 g1 g2 g3 g4 g5 g6 c112 c113 c114 c115 c116 c117 c118 c119 c120 c121 c122 c123 c124 c125 c126 s : Tile F) (k : _ → Body F) :
    Bind.bind (k0_part503 i arg1 harg1 arg2 harg2 arg3 harg3 arg4 harg4 arg5 harg5 arg6 harg6 arg7 harg7 arg8 harg8 arg9 harg9 arg10 harg10 g0 g1 g2 g3 g4 g5 g6 c112 c113 c114 c115 c116 c117 c118 c119 c120 c121 c122 c123 c124 c125 c126 s) k =
      choose arg9 arg10 arg5 127 (by decide) s (fun c127 =>
      masks arg10 g0 g1 g2 g3 g4 g5 g6 (maximumf (maximumf (maximumf (maximumf c112 c113) (maximumf c114 c115)) (maximumf (maximumf c116 c117) (maximumf c118 c119))) (maximumf (maximumf (maximumf c120 c121) (maximumf c122 c123)) (maximumf (maximumf c124 c125) (maximumf c126 c127)))) <|
      search arg9 arg10 (tail.take 89) fun b => lookRaw arg10 90 (by decide) fun v => k ⟨b.choice, b.expert, b.score, v⟩) := rfl

end Cert.KernelIdeal.Route
-- ==== Proof.PartsD.lean ====
/- The printed body's parts are the loops' pieces, by unfolding: parts 504, 505, 506 of the printed text. -/
module

public import proofs.«01_k».proof.Proof.Program

@[expose] public section

set_option maxRecDepth 100000
set_option maxHeartbeats 4000000

noncomputable section

namespace Cert.KernelIdeal.Route

open Idealize.ShloMosaic Idealize.SL.Sem

variable {F : FTy → Type} [FloatOps F] [Facts]
variable (i : grid0.Coords)
  (arg1 : Memref sig .tc .vmem S8x128x3072 .fp8e4m3) (harg1 : arg1.IsWhole) (arg2 : Memref sig .tc .vmem S8x128 .f32) (harg2 : arg2.IsWhole)
  (arg3 : Memref sig .tc .vmem S128x3072 .fp8e4m3) (harg3 : arg3.IsWhole) (arg4 : Memref sig .tc .smem S128 .f32) (harg4 : arg4.IsWhole)
  (arg5 : Memref sig .tc .smem S128 .f32) (harg5 : arg5.IsWhole) (arg6 : Memref sig .tc .vmem S6x8x128 .i32) (harg6 : arg6.IsWhole)
  (arg7 : Memref sig .tc .vmem S6x8x128 .f32) (harg7 : arg7.IsWhole) (arg8 : Memref sig .tc .vmem S1088x128 .f32) (harg8 : arg8.IsWhole)
  (arg9 : Memref sig .tc .vmem S128x8x128 .f32) (harg9 : arg9.IsWhole) (arg10 : Memref sig .tc .vmem S128x8x128 .f32) (harg10 : arg10.IsWhole)

/-- The rest of the first search, and the second up to expert 102. -/
theorem part504_eq (b : Tile F) (x : ITile) (w : Tile F) (v : Vec F S1x8x128 .f32) (k : _ → Body F) :
    Bind.bind (k0_part504 i arg1 harg1 arg2 harg2 arg3 harg3 arg4 harg4 arg5 harg5 arg6 harg6 arg7 harg7 arg8 harg8 arg9 harg9 arg10 harg10 b x w v) k =
      look arg9 90 (by decide) (fun s =>
      (tail.drop 90).run (meet arg9 arg10) (Best.meet ⟨b, x, w⟩ 90 (shapeCast S8x128 v Facts₀.shapeCasts_S1x8x128_S8x128) s) fun b0 =>
      emit arg6 arg7 0 (by decide) b0 <| searchAgain arg9 arg10 b0.expert (tail.take 101) fun b =>
      look arg10 102 (by decide) fun c => put arg10 102 (by decide) (struck b0.expert 102 c) <| look arg9 102 (by decide) fun s =>
      k ⟨b0.expert, b.expert, b.score, s, cmpf .ogt (struck b0.expert 102 c) b.choice,
        select (cmpf .ogt (struck b0.expert 102 c) b.choice) (struck b0.expert 102 c) b.choice, 102#32⟩) := rfl

/-- The rest of the second search, and the third up to expert 98. -/
theorem part505_eq (prev x : ITile) (w s : Tile F) (t : IVec S8x128 1) (b : Tile F) (n : BitVec 32) (k : _ → Body F) :
    Bind.bind (k0_part505 i arg1 harg1 arg2 harg2 arg3 harg3 arg4 harg4 arg5 harg5 arg6 harg6 arg7 harg7 arg8 harg8 arg9 harg9 arg10 harg10 prev x w s t b n) k =
      (tail.drop 102).run (meetAgain arg9 arg10 prev) ⟨b, select t (broadcast S8x128 n) x, select t s w⟩ fun b1 =>
      emit arg6 arg7 1 (by decide) b1 <| searchAgain arg9 arg10 b1.expert (tail.take 97) fun b =>
      look arg10 98 (by decide) fun c => put arg10 98 (by decide) (struck b1.expert 98 c) <|
      k ⟨b1.expert, b.choice, b.expert, b.score, struck b1.expert 98 c⟩ := rfl

/-- The rest of the third search, and the fourth up to expert 94. -/
theorem part506_eq (prev : ITile) (b : Tile F) (x : ITile) (w c : Tile F) (k : _ → Body F) :
    Bind.bind (k0_part506 i arg1 harg1 arg2 harg2 arg3 harg3 arg4 harg4 arg5 harg5 arg6 harg6 arg7 harg7 arg8 harg8 arg9 harg9 arg10 harg10 prev b x w c) k =
      look arg9 98 (by decide) (fun s =>
      (tail.drop 98).run (meetAgain arg9 arg10 prev) (Best.meet ⟨b, x, w⟩ 98 c s) fun b2 =>
      emit arg6 arg7 2 (by decide) b2 <| searchAgain arg9 arg10 b2.expert (tail.take 93) fun b => look arg10 94 (by decide) fun c =>
      k ⟨b2.expert, b.choice, b.expert, b.score, c, cmpi .eq b2.expert (broadcast S8x128 94#32), fill 0xFF800000#32⟩) := rfl

end Cert.KernelIdeal.Route
-- ==== Proof.PartsE.lean ====
/- The printed body's parts are the loops' pieces, by unfolding: parts 507, 508, 509 of the printed text. -/
module

public import proofs.«01_k».proof.Proof.Program

@[expose] public section

set_option maxRecDepth 100000
set_option maxHeartbeats 4000000

noncomputable section

namespace Cert.KernelIdeal.Route

open Idealize.ShloMosaic Idealize.SL.Sem

variable {F : FTy → Type} [FloatOps F] [Facts]
variable (i : grid0.Coords)
  (arg1 : Memref sig .tc .vmem S8x128x3072 .fp8e4m3) (harg1 : arg1.IsWhole) (arg2 : Memref sig .tc .vmem S8x128 .f32) (harg2 : arg2.IsWhole)
  (arg3 : Memref sig .tc .vmem S128x3072 .fp8e4m3) (harg3 : arg3.IsWhole) (arg4 : Memref sig .tc .smem S128 .f32) (harg4 : arg4.IsWhole)
  (arg5 : Memref sig .tc .smem S128 .f32) (harg5 : arg5.IsWhole) (arg6 : Memref sig .tc .vmem S6x8x128 .i32) (harg6 : arg6.IsWhole)
  (arg7 : Memref sig .tc .vmem S6x8x128 .f32) (harg7 : arg7.IsWhole) (arg8 : Memref sig .tc .vmem S1088x128 .f32) (harg8 : arg8.IsWhole)
  (arg9 : Memref sig .tc .vmem S128x8x128 .f32) (harg9 : arg9.IsWhole) (arg10 : Memref sig .tc .vmem S128x8x128 .f32) (harg10 : arg10.IsWhole)

/-- The rest of the fourth search, and the fifth up to expert 89. -/
theorem part507_eq (prev : ITile) (b : Tile F) (x : ITile) (w c : Tile F) (t : IVec S8x128 1) (n : Tile F) (k : _ → Body F) :
    Bind.bind (k0_part507 i arg1 harg1 arg2 harg2 arg3 harg3 arg4 harg4 arg5 harg5 arg6 harg6 arg7 harg7 arg8 harg8 arg9 harg9 arg10 harg10 prev b x w c t n) k =
      put arg10 94 (by decide) (select t n c) (look arg9 94 (by decide) fun s =>
      (tail.drop 94).run (meetAgain arg9 arg10 prev) (Best.meet ⟨b, x, w⟩ 94 (select t n c) s) fun b3 =>
      emit arg6 arg7 3 (by decide) b3 <| searchAgain arg9 arg10 b3.expert (tail.take 89) fun b =>
      k ⟨b3.expert, b.choice, b.expert, b.score⟩) := rfl

/-- The rest of the fifth search, and the sixth up to expert 85. -/
theorem part508_eq (prev : ITile) (b : Tile F) (x : ITile) (w : Tile F) (k : _ → Body F) :
    Bind.bind (k0_part508 i arg1 harg1 arg2 harg2 arg3 harg3 arg4 harg4 arg5 harg5 arg6 harg6 arg7 harg7 arg8 harg8 arg9 harg9 arg10 harg10 prev b x w) k =
      (tail.drop 89).run (meetAgain arg9 arg10 prev) ⟨b, x, w⟩ fun b4 =>
      emit arg6 arg7 4 (by decide) b4 <| searchAgain arg9 arg10 b4.expert (tail.take 84) fun b =>
      look arg10 85 (by decide) fun c => put arg10 85 (by decide) (struck b4.expert 85 c) <| look arg9 85 (by decide) fun s =>
      k ⟨b4.expert, b.choice, b.expert, b.score, struck b4.expert 85 c, s⟩ := rfl

/-- The rest of the sixth search. -/
theorem part509_eq (prev : ITile) (b : Tile F) (x : ITile) (w c s : Tile F) (k : _ → Body F) :
    Bind.bind (k0_part509 i arg1 harg1 arg2 harg2 arg3 harg3 arg4 harg4 arg5 harg5 arg6 harg6 arg7 harg7 arg8 harg8 arg9 harg9 arg10 harg10 prev b x w c s) k =
      (tail.drop 85).run (meetAgain arg9 arg10 prev) (Best.meet ⟨b, x, w⟩ 85 c s) fun b5 => emit arg6 arg7 5 (by decide) b5 (k ⟨⟩) := rfl

end Cert.KernelIdeal.Route
-- ==== Proof.Router.lean ====
/- The whole printed body is the loops, one after the other. -/
module

public import proofs.«01_k».proof.Proof.PartsA
public import proofs.«01_k».proof.Proof.PartsB
public import proofs.«01_k».proof.Proof.PartsC
public import proofs.«01_k».proof.Proof.PartsD
public import proofs.«01_k».proof.Proof.PartsE

@[expose] public section

set_option maxRecDepth 100000
set_option maxHeartbeats 4000000

noncomputable section

namespace Cert.KernelIdeal.Route

open Idealize.ShloMosaic Idealize.SL.Sem

variable {F : FTy → Type} [FloatOps F] [Facts]
variable (i : grid0.Coords)
  (arg1 : Memref sig .tc .vmem S8x128x3072 .fp8e4m3) (harg1 : arg1.IsWhole) (arg2 : Memref sig .tc .vmem S8x128 .f32) (harg2 : arg2.IsWhole)
  (arg3 : Memref sig .tc .vmem S128x3072 .fp8e4m3) (harg3 : arg3.IsWhole) (arg4 : Memref sig .tc .smem S128 .f32) (harg4 : arg4.IsWhole)
  (arg5 : Memref sig .tc .smem S128 .f32) (harg5 : arg5.IsWhole) (arg6 : Memref sig .tc .vmem S6x8x128 .i32) (harg6 : arg6.IsWhole)
  (arg7 : Memref sig .tc .vmem S6x8x128 .f32) (harg7 : arg7.IsWhole) (arg8 : Memref sig .tc .vmem S1088x128 .f32) (harg8 : arg8.IsWhole)
  (arg9 : Memref sig .tc .vmem S128x8x128 .f32) (harg9 : arg9.IsWhole) (arg10 : Memref sig .tc .vmem S128x8x128 .f32) (harg10 : arg10.IsWhole)

theorem powers_split (sc ch : Memref sig .tc .vmem S128x8x128 .f32) (m : Tile F) (n : ℕ) (k : Tile F → Body F) :
    powers sc ch m tail k = powers sc ch m (tail.take n) fun t => (tail.drop n).run (addPower sc ch m) t k := by
  unfold powers
  exact congrArg (power sc ch m 0 _) (funext fun u => congrArg (write ch 0 _ u) (Steps.run_split _ n tail u k))

theorem search_split (sc ch : Memref sig .tc .vmem S128x8x128 .f32) (n : ℕ) (k : Best F → Body F) :
    search sc ch tail k = search sc ch (tail.take n) fun t => (tail.drop n).run (meet sc ch) t k := by
  unfold search
  exact congrArg (look ch 0 _) (funext fun c => congrArg (look sc 0 _) (funext fun s => Steps.run_split _ n tail _ k))

theorem searchAgain_split (sc ch : Memref sig .tc .vmem S128x8x128 .f32) (prev : ITile) (n : ℕ) (k : Best F → Body F) :
    searchAgain sc ch prev tail k = searchAgain sc ch prev (tail.take n) fun t => (tail.drop n).run (meetAgain sc ch prev) t k := by
  unfold searchAgain
  exact congrArg (look ch 0 _) (funext fun c => congrArg (put ch 0 _ _) (congrArg (look sc 0 _) (funext fun s => Steps.run_split _ n tail _ k)))

/-- The rounds, each search cut where the printed text is. -/
theorem rounds_split (sc ch : Memref sig .tc .vmem S128x8x128 .f32) (ids : Memref sig .tc .vmem S6x8x128 .i32)
    (wts : Memref sig .tc .vmem S6x8x128 .f32) : rounds (F := F) sc ch ids wts =
  (search sc ch (tail.take 89) fun t => (tail.drop 89).run (meet sc ch) t fun b => emit ids wts 0 (by decide) b <|
  searchAgain sc ch b.expert (tail.take 101) fun t => (tail.drop 101).run (meetAgain sc ch b.expert) t fun b => emit ids wts 1 (by decide) b <|
  searchAgain sc ch b.expert (tail.take 97) fun t => (tail.drop 97).run (meetAgain sc ch b.expert) t fun b => emit ids wts 2 (by decide) b <|
  searchAgain sc ch b.expert (tail.take 93) fun t => (tail.drop 93).run (meetAgain sc ch b.expert) t fun b => emit ids wts 3 (by decide) b <|
  searchAgain sc ch b.expert (tail.take 89) fun t => (tail.drop 89).run (meetAgain sc ch b.expert) t fun b => emit ids wts 4 (by decide) b <|
  searchAgain sc ch b.expert (tail.take 84) fun t => (tail.drop 84).run (meetAgain sc ch b.expert) t fun b => emit ids wts 5 (by decide) b (.ret ⟨⟩)) := by
  unfold rounds
  rw [search_split sc ch 89]
  refine congrArg (search sc ch _) (funext fun t => congrArg (Steps.run _ _ t) (funext fun b => congrArg (emit ids wts 0 _ b) ?_))
  rw [searchAgain_split sc ch _ 101]
  refine congrArg (searchAgain sc ch _ _) (funext fun t => congrArg (Steps.run _ _ t) (funext fun b => congrArg (emit ids wts 1 _ b) ?_))
  rw [searchAgain_split sc ch _ 97]
  refine congrArg (searchAgain sc ch _ _) (funext fun t => congrArg (Steps.run _ _ t) (funext fun b => congrArg (emit ids wts 2 _ b) ?_))
  rw [searchAgain_split sc ch _ 93]
  refine congrArg (searchAgain sc ch _ _) (funext fun t => congrArg (Steps.run _ _ t) (funext fun b => congrArg (emit ids wts 3 _ b) ?_))
  rw [searchAgain_split sc ch _ 89]
  refine congrArg (searchAgain sc ch _ _) (funext fun t => congrArg (Steps.run _ _ t) (funext fun b => congrArg (emit ids wts 4 _ b) ?_))
  rw [searchAgain_split sc ch _ 84]

/-- The printed body. -/
theorem router_eq :
    cc0_router (F := F) i arg1 harg1 arg2 harg2 arg3 harg3 arg4 harg4 arg5 harg5 arg6 harg6 arg7 harg7 arg8 harg8 arg9 harg9 arg10 harg10 =
      start arg1 arg2 arg3 arg8 (select6 arg8 arg9 arg10 arg4 arg5 arg6 arg7) := by
  have hs : select6 arg8 arg9 arg10 arg4 arg5 arg6 arg7 = fun xs : Tile F =>
      experts.run (logit arg8 arg9 arg4 xs) fun m => powers arg9 arg10 m (tail.take 97) fun t =>
      (tail.drop 97).run (addPower arg9 arg10 m) t fun total =>
      firstGroups arg9 arg10 arg5 (inverse total) fun g0 g1 g2 g3 g4 g5 g6 => group7.run (chooseFrom arg9 arg10 arg5 (inverse total)) fun g7 =>
      masks arg10 g0 g1 g2 g3 g4 g5 g6 g7 (rounds arg9 arg10 arg6 arg7) := by
    funext xs
    unfold select6
    exact congrArg (Block.run _ _) (funext fun m => powers_split arg9 arg10 m 97 _)
  rw [hs, rounds_split]
  unfold cc0_router
  simp only [part501_eq, part502_eq, part503_eq, part504_eq, part505_eq, part506_eq, part507_eq, part508_eq, part509_eq]
  rfl

end Cert.KernelIdeal.Route
-- ==== Proof.Body.lean ====
/- What the kernel's body leaves, stated on the contents of its inputs: the rows of the product that it copies
   through a scratch array are read back as columns of the product, whatever the array held before. -/
module

public import proofs.«01_k».proof.Proof.Loops
public import proofs.«01_k».proof.Proof.Router

@[expose] public section

noncomputable section

namespace Cert.KernelIdeal.Route

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The product's rows -/

/-- Token `(b, j)` of a block is the block's token `128 b + j`. -/
def column (y : S8x128.Idx) : Fin 1024 :=
  ⟨128 * (y 0).val + (y 1).val, by have h0 : (y 0).val < 8 := (y 0).isLt; have h1 : (y 1).val < 128 := (y 1).isLt; omega⟩

section
variable {F : FTy → Type} [FloatOps F] [Facts]
open Facts₀ Facts

local notation "𝕄" => MT nD τ sig Unit (Elt F) ℕ (UR sig nD τ) ℕ

/-- Expert `e`'s products, one per token of the block. -/
def rowsOf (q : FVec F S128x1024 .f32) (e : Fin 128) : Tile F := fun y => q (ix2 e (column y))

theorem band_hit (X : Vec F S1088x128 .f32) (q : FVec F S128x1024 .f32) (o c : ℕ) (hc : S128x1024.Slices ![0, c] S128x128)
    (z : S1088x128.Idx) (h : o ≤ (z 0).val ∧ (z 0).val < o + 128) (i : Fin 128) (j : Fin 1024) (hi : i.val = (z 0).val - o)
    (hj : j.val = c + (z 1).val) :
    VecWindow.put X ![o, 0] S128x128.size (extractStridedSlice S128x128 ![0, c] q hc) z = q (ix2 i j) := by
  have hin : ∀ a, (![o, 0] : Fin 2 → ℕ) a ≤ (z a).val ∧ (z a).val < (![o, 0] : Fin 2 → ℕ) a + S128x128.size a := by
    have h1 : (z 1).val < 128 := (z 1).isLt
    intro a; fin_cases a
    · exact h
    · show 0 ≤ (z 1).val ∧ (z 1).val < 0 + 128; omega
  unfold VecWindow.put
  rw [dif_pos hin]
  refine extractStridedSlice_apply ![0, c] q hc _ (ix2 i j) ?_
  intro a; fin_cases a
  · show i.val = 0 + ((z 0).val - o); omega
  · show j.val = c + ((z 1).val - 0); omega

theorem band_miss (X : Vec F S1088x128 .f32) (w : FVec F S128x128 .f32) (o : ℕ) (z : S1088x128.Idx)
    (h : (z 0).val < o ∨ o + 128 ≤ (z 0).val) : VecWindow.put X ![o, 0] S128x128.size w z = X z := by
  unfold VecWindow.put
  refine dif_neg fun hin => ?_
  have h0 : o ≤ (z 0).val ∧ (z 0).val < o + 128 := hin 0
  omega

/-- Reading the rows back yields the product's columns. -/
theorem rowAt_banded (lt : Vec F S1088x128 .f32) (q : FVec F S128x1024 .f32) (e : ℕ) (h : e < 128) :
    rowAt (banded lt q) e h = rowsOf q ⟨e, h⟩ := by
  funext y
  unfold rowAt rowsOf banded
  generalize hz : (⟨![e, 0], S8x128.size, ![136, 1], insideRows h⟩ : LoadRect S1088x128).idx y = z
  have h0 : (z 0).val = e + 136 * (y 0).val := by rw [← hz]; rfl
  have h1 : (z 1).val = 0 + 1 * (y 1).val := by rw [← hz]; rfl
  have y0 : (y 0).val < 8 := (y 0).isLt
  have hcol : (column y).val = 128 * (y 0).val + (y 1).val := rfl
  generalize hb : (y 0).val = b at *
  obtain rfl | rfl | rfl | rfl | rfl | rfl | rfl | rfl : b = 0 ∨ b = 1 ∨ b = 2 ∨ b = 3 ∨ b = 4 ∨ b = 5 ∨ b = 6 ∨ b = 7 := by omega
  · rw [band_miss _ _ _ _ (by omega), band_miss _ _ _ _ (by omega), band_miss _ _ _ _ (by omega), band_miss _ _ _ _ (by omega),
      band_miss _ _ _ _ (by omega), band_miss _ _ _ _ (by omega), band_miss _ _ _ _ (by omega)]
    exact band_hit _ _ _ _ _ _ (by omega) _ _ (by show e = _; omega) (by omega)
  · rw [band_miss _ _ _ _ (by omega), band_miss _ _ _ _ (by omega), band_miss _ _ _ _ (by omega), band_miss _ _ _ _ (by omega),
      band_miss _ _ _ _ (by omega), band_miss _ _ _ _ (by omega)]
    exact band_hit _ _ _ _ _ _ (by omega) _ _ (by show e = _; omega) (by omega)
  · rw [band_miss _ _ _ _ (by omega), band_miss _ _ _ _ (by omega), band_miss _ _ _ _ (by omega), band_miss _ _ _ _ (by omega),
      band_miss _ _ _ _ (by omega)]
    exact band_hit _ _ _ _ _ _ (by omega) _ _ (by show e = _; omega) (by omega)
  · rw [band_miss _ _ _ _ (by omega), band_miss _ _ _ _ (by omega), band_miss _ _ _ _ (by omega), band_miss _ _ _ _ (by omega)]
    exact band_hit _ _ _ _ _ _ (by omega) _ _ (by show e = _; omega) (by omega)
  · rw [band_miss _ _ _ _ (by omega), band_miss _ _ _ _ (by omega), band_miss _ _ _ _ (by omega)]
    exact band_hit _ _ _ _ _ _ (by omega) _ _ (by show e = _; omega) (by omega)
  · rw [band_miss _ _ _ _ (by omega), band_miss _ _ _ _ (by omega)]
    exact band_hit _ _ _ _ _ _ (by omega) _ _ (by show e = _; omega) (by omega)
  · rw [band_miss _ _ _ _ (by omega)]
    exact band_hit _ _ _ _ _ _ (by omega) _ _ (by show e = _; omega) (by omega)
  · exact band_hit _ _ _ _ _ _ (by omega) _ _ (by show e = _; omega) (by omega)

/-! ## The results of a block -/

section
variable (x0 : Vec F S8x128x3072 .fp8e4m3) (x1 : Vec F S8x128 .f32) (x2 : Vec F S128x3072 .fp8e4m3) (x3 x4 : Vec F S128 .f32)

/-- The logits of a block's tokens. -/
def blockLogits : Fin 128 → Tile F := logitsOf (rowsOf (product x0 x2)) x1 x3
/-- Their scores, from the logits. -/
def scoresFrom (L : Fin 128 → Tile F) : Fin 128 → Tile F :=
  scoresOf (powersOf L (experts.top L)) (inverse (totalOf (powersOf L (experts.top L))))
/-- What the rounds find, from the logits. -/
def foundFrom (L : Fin 128 → Tile F) (r : ℕ) : Best F := found (scoresFrom L) (maskedOf (choicesOf x4 (scoresFrom L))) r
/-- The experts of a block's tokens, per round. -/
def blockIds : Vec F S6x8x128 .i32 := pack (n := 6) fun r => (foundFrom x4 (blockLogits x0 x1 x2 x3) r.val).expert
/-- The weights of a block's tokens, per round. -/
def blockWts : Vec F S6x8x128 .f32 :=
  pack (n := 6) fun r => mulf (foundFrom x4 (blockLogits x0 x1 x2 x3) r.val).score (fill 0x40200000#32)

end

/-! ## The body -/

/-- The body turns any contents of its outputs into the results of its inputs' block. -/
theorem sound_router (c : Dev nD) (i : grid0.Coords) {arg1 : Memref sig .tc .vmem S8x128x3072 .fp8e4m3} {harg1 : arg1.IsWhole}
    {arg2 : Memref sig .tc .vmem S8x128 .f32} {harg2 : arg2.IsWhole} {arg3 : Memref sig .tc .vmem S128x3072 .fp8e4m3} {harg3 : arg3.IsWhole}
    {arg4 : Memref sig .tc .smem S128 .f32} {harg4 : arg4.IsWhole} {arg5 : Memref sig .tc .smem S128 .f32} {harg5 : arg5.IsWhole}
    {arg6 : Memref sig .tc .vmem S6x8x128 .i32} {harg6 : arg6.IsWhole} {arg7 : Memref sig .tc .vmem S6x8x128 .f32} {harg7 : arg7.IsWhole}
    {arg8 : Memref sig .tc .vmem S1088x128 .f32} {harg8 : arg8.IsWhole} {arg9 : Memref sig .tc .vmem S128x8x128 .f32} {harg9 : arg9.IsWhole}
    {arg10 : Memref sig .tc .vmem S128x8x128 .f32} {harg10 : arg10.IsWhole}
    (x0 : Vec F S8x128x3072 .fp8e4m3) (x1 : Vec F S8x128 .f32) (x2 : Vec F S128x3072 .fp8e4m3) (x3 x4 : Vec F S128 .f32)
    (d6 : Vec F S6x8x128 .i32) (d7 : Vec F S6x8x128 .f32) (d8 : Vec F S1088x128 .f32) (d9 d10 : Vec F S128x8x128 .f32)
    (E : Set ℕ) (K : PUnit → sProp 𝕄) :
    iprop((owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d6
        ∗ owns (c : Thread nD τ) arg7 fullShare d7 ∗ owns (c : Thread nD τ) arg8 fullShare d8 ∗ owns (c : Thread nD τ) arg9 fullShare d9
        ∗ owns (c : Thread nD τ) arg10 fullShare d10)
      ∗ ((owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare (blockIds x0 x1 x2 x3 x4)
        ∗ owns (c : Thread nD τ) arg7 fullShare (blockWts x0 x1 x2 x3 x4) ∗ (∃ d, owns (c : Thread nD τ) arg8 fullShare d)
        ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) E
          (cc0_router i arg1 harg1 arg2 harg2 arg3 harg3 arg4 harg4 arg5 harg5 arg6 harg6 arg7 harg7 arg8 harg8 arg9 harg9 arg10 harg10) K := by
  obtain ⟨ids, rfl⟩ := exists_pack (n := 6) d6
  obtain ⟨wts, rfl⟩ := exists_pack (n := 6) d7
  obtain ⟨sc, rfl⟩ := exists_pack (n := 128) d9
  obtain ⟨ch, rfl⟩ := exists_pack (n := 128) d10
  rw [router_eq]
  let S : Setting F := ⟨c, E, arg1, arg2, arg3, arg4, arg5, arg6, arg7, arg8, arg9, arg10, x0, x1, x2, x3, x4,
    iprop((owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare (blockIds x0 x1 x2 x3 x4)
        ∗ owns (c : Thread nD τ) arg7 fullShare (blockWts x0 x1 x2 x3 x4) ∗ (∃ d, owns (c : Thread nD τ) arg8 fullShare d)
        ∗ (∃ d, owns (c : Thread nD τ) arg9 fullShare d) ∗ (∃ d, owns (c : Thread nD τ) arg10 fullShare d)) -∗ K ⟨⟩), K⟩
  have hL : blockLogits x0 x1 x2 x3 = logitsOf (fun e => rowAt (banded d8 (product S.x0 S.x2)) e.val e.isLt) x1 S.x3 := by
    unfold blockLogits; congr 1; funext e; exact (rowAt_banded _ _ _ _).symm
  have main : Good S ⟨d8, sc, ch, ids, wts⟩ (start S.x S.scale S.w S.lt (select6 S.lt S.sc S.ch S.alpha S.bias S.ids S.wts)) := by
    refine good_start (good_select6 _ _ _ _ hL rfl rfl rfl ?_)
    unfold Good Setting.holds
    refine .trans ?_ (le_wp_ret _ _ _ _ _)
    iintro ⟨⟨H1, H2, H3, H4, H5, H6, H7, H8, H9, H10⟩, HR⟩
    iapply HR
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10
  unfold Good Setting.holds at main
  dsimp only [S] at main
  convert main

end

end Cert.KernelIdeal.Route
-- ==== Proof.Run.lean ====
/- The run of the whole kernel: the pipeline's proof data, with the results of `Body.lean` as what each grid point leaves
   in the output windows; then the launch, and the frame. Follows the shape of the library's frame certificates. -/
module

public import proofs.«01_k».proof.Proof.Body
public import proofs.«01_k».proof.Proof.Gen.KernelIdeal.Frame.Runs
public import Idealize.ShloMosaic.Lib.Claim

@[expose] public section

set_option maxRecDepth 16384

noncomputable section

namespace Cert.KernelIdeal.Route

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' staging buffers hold after the body at point `t`. -/
def idsAt (c : Dev nD) (t : Fin cfg0.N) : Vec F S6x8x128 .i32 :=
  blockIds (iblk m c 0 t) (iblk m c 1 t) (iblk m c 2 t) (iblk m c 3 t) (iblk m c 4 t)
/-- The same of the weights. -/
def wtsAt (c : Dev nD) (t : Fin cfg0.N) : Vec F S6x8x128 .f32 :=
  blockWts (iblk m c 0 t) (iblk m c 1 t) (iblk m c 2 t) (iblk m c 3 t) (iblk m c 4 t)

/-- The proof data of the one pipeline on core `c`: the arrays as the region finds them (`V`); after the body at
    point `t` each input's buffer at its block and the outputs' at `idsAt`, `wtsAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => idsAt m c t
    | ⟨6, _⟩ => wtsAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = idsAt m c t := by dsimp only [dats]
theorem after0_6 (c : Dev nD) (t : Fin cfg0.N) : (dats m 0 c).after 6 t = wtsAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨⟨%f0, HS0⟩, ⟨%f1, HS1⟩, ⟨%f2, HS2⟩⟩, Hg⟩, Ho, ⟨%d0, H0⟩, ⟨%d1, H1⟩, ⟨%d2, H2⟩, ⟨%d3, H3⟩, ⟨%d4, H4⟩, ⟨%d5, H5⟩, ⟨%d6, H6⟩⟩
  iapply (sound_router c (grid0.coords t) (iblk m c 0 t) (iblk m c 1 t) (iblk m c 2 t) (iblk m c 3 t) (iblk m c 4 t) _ _ _ _ _ Set.univ _)
  isplitl [H0 H1 H2 H3 H4 H5 H6 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends, nothing faulting, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Route

end
-- ==== Proof.Spec.lean ====
/- What one token's results are: from its logits over the 128 experts, the six chosen experts and their weights. The
   definitions are the reference's own lines read at one token over the extended reals; the facts below them say what the
   first largest entry is and what the score at it is. -/
module

public import Idealize.ShloMosaic.Lib.Pointwise
public import Idealize.ShloMosaic.Lib.WordCmp

@[expose] public section

noncomputable section

namespace Cert.Spec

open Idealize.ShloMosaic

/-- The value of a choice that is out of the running. -/
abbrev low : EReal := Ideal.ofBits .f32 0xFF800000#32

theorem low_eq : low = ⊥ := by simp [low, Ideal.ofBits, Ideal.ieee]

/-- The largest of finitely many entries. -/
def peak {n : ℕ} (f : Fin n → EReal) : EReal := Finset.univ.fold max low f

theorem peak_le {n : ℕ} (f : Fin n → EReal) (x : EReal) : peak f ≤ x ↔ ∀ i, f i ≤ x := by
  unfold peak
  rw [Finset.fold_max_le, low_eq]
  simp

theorem peak_eq {n : ℕ} (f : Fin n → EReal) (e : Fin n) (h : ∀ i, f i ≤ f e) : peak f = f e :=
  le_antisymm ((peak_le f _).mpr h) ((peak_le f _).mp le_rfl e)

/-! ## Scores and choices -/

/-- An expert's exponential. -/
def power (L : Fin 128 → EReal) (e : Fin 128) : EReal := Ideal.exp (L e - peak L)
/-- The sum of the exponentials. -/
def total (L : Fin 128 → EReal) : EReal := ∑ e, power L e
/-- An expert's score. -/
def score (L : Fin 128 → EReal) (e : Fin 128) : EReal := if total L = 0 then 0 else Ideal.div (power L e) (total L)
/-- An expert's choice. -/
def choice (L β : Fin 128 → EReal) (e : Fin 128) : EReal := score L e + β e

theorem exp_nonneg (x : EReal) : 0 ≤ Ideal.exp x := by
  induction x using EReal.rec with
  | bot => simp
  | coe r => rw [Ideal.exp_coe]; exact_mod_cast (Real.exp_pos r).le
  | top => simp

/-- The exponential times the inverse of the sum is the score, also where the sum is zero: every exponential is then. -/
theorem power_mul_inverse (L : Fin 128 → EReal) (e : Fin 128) : power L e * Ideal.div 1 (total L) = score L e := by
  unfold score
  by_cases h : total L = 0
  · rw [if_pos h]
    have h0 := (Finset.sum_eq_zero_iff_of_nonneg (s := Finset.univ) (f := power L) fun i _ => exp_nonneg _).mp h e (Finset.mem_univ e)
    rw [h0, zero_mul]
  · rw [if_neg h, Ideal.div, if_neg h, Ideal.div, if_neg h, one_mul]

/-! ## Groups -/

/-- The largest choice of a group of sixteen. -/
def groupPeak (c : Fin 128 → EReal) (g : Fin 8) : EReal := peak fun i : Fin 16 => c ⟨g.val * 16 + i.val, by omega⟩

/-- Whether fewer than four groups come before one with largest choice `g`: an earlier one does at a tie. -/
def ahead (before after : List EReal) (g : EReal) : BitVec 1 :=
  IntOp.cmpi .slt (after.foldl (fun n h => IntOp.addi n (BitVec.setWidth 32 (BitVec.ofBool (decide (g < h)))))
    (before.foldl (fun n h => IntOp.addi n (BitVec.setWidth 32 (BitVec.ofBool (decide (g ≤ h))))) 0#32)) 4#32

/-- Whether group `k` is among the best four. -/
def keeps (g : Fin 8 → EReal) : ℕ → BitVec 1
  | 0 => ahead [] [g 1, g 2, g 3, g 4, g 5, g 6, g 7] (g 0)
  | 1 => ahead [g 0] [g 2, g 3, g 4, g 5, g 6, g 7] (g 1)
  | 2 => ahead [g 0, g 1] [g 3, g 4, g 5, g 6, g 7] (g 2)
  | 3 => ahead [g 0, g 1, g 2] [g 4, g 5, g 6, g 7] (g 3)
  | 4 => ahead [g 0, g 1, g 2, g 3] [g 5, g 6, g 7] (g 4)
  | 5 => ahead [g 0, g 1, g 2, g 3, g 4] [g 6, g 7] (g 5)
  | 6 => ahead [g 0, g 1, g 2, g 3, g 4, g 5] [g 7] (g 6)
  | _ => ahead [g 0, g 1, g 2, g 3, g 4, g 5, g 6] [] (g 7)

/-- The choices with the other groups' out of the running. -/
def masked (c : Fin 128 → EReal) (e : Fin 128) : EReal := Scalar.select (keeps (groupPeak c) (e.val / 16)) (c e) low

/-! ## Rounds -/

/-- The first expert with the largest choice. -/
def first (c : Fin 128 → EReal) : BitVec 32 :=
  Finset.univ.fold IntOp.minsi 2147483647#32 fun e => if c e = peak c then BitVec.ofNat 32 e.val else 128#32
/-- The choices with one expert's out of the running. -/
def strike (i : BitVec 32) (c : Fin 128 → EReal) (e : Fin 128) : EReal :=
  Scalar.select (IntOp.cmpi .eq (BitVec.ofNat 32 e.val) i) low (c e)
/-- The score of one expert. -/
def scoreAt (s : Fin 128 → EReal) (i : BitVec 32) : EReal :=
  peak fun e => Scalar.select (IntOp.cmpi .eq (BitVec.ofNat 32 e.val) i) (s e) low
/-- The choices left for round `r`. -/
def remaining (c : Fin 128 → EReal) : ℕ → Fin 128 → EReal
  | 0 => c
  | r + 1 => strike (first (remaining c r)) (remaining c r)

/-- The expert chosen in round `r`. -/
def idOf (L β : Fin 128 → EReal) (r : ℕ) : BitVec 32 := first (remaining (masked (choice L β)) r)
/-- Its weight. -/
def weightOf (L β : Fin 128 → EReal) (r : ℕ) : EReal := scoreAt (score L) (idOf L β r) * Ideal.ofBits .f32 0x40200000#32

theorem minsi_toInt (x y : BitVec 32) : (IntOp.minsi x y).toInt = min x.toInt y.toInt := by
  unfold IntOp.minsi
  rw [BitVec.slt_eq_decide]
  by_cases h : x.toInt < y.toInt
  · simp [h, h.le]
  · simp [h, not_lt.mp h]

theorem ofNat_toInt (e : ℕ) (h : e ≤ 128) : (BitVec.ofNat 32 e).toInt = e := by
  rw [BitVec.toInt_eq_toNat_of_lt] <;> simp only [BitVec.toNat_ofNat] <;> omega

theorem ofNat_inj (e f : Fin 128) (h : BitVec.ofNat 32 e.val = BitVec.ofNat 32 f.val) : e = f := by
  have h' := congrArg BitVec.toInt h
  rw [ofNat_toInt _ e.isLt.le, ofNat_toInt _ f.isLt.le] at h'
  exact Fin.ext (by exact_mod_cast h')

/-- The first expert is the one before which every choice is smaller and after which none is larger. -/
theorem first_eq (c : Fin 128 → EReal) (e : Fin 128) (h : ∀ f, c f ≤ c e) (h' : ∀ f < e, c f < c e) :
    first c = BitVec.ofNat 32 e.val := by
  apply BitVec.eq_of_toInt_eq
  unfold first
  rw [← Finset.fold_hom (op' := min) (m := BitVec.toInt) minsi_toInt, peak_eq c e h, ofNat_toInt _ e.isLt.le]
  apply le_antisymm
  · rw [Finset.fold_min_le]
    right
    exact ⟨e, Finset.mem_univ e, by rw [if_pos rfl, ofNat_toInt _ e.isLt.le]⟩
  · rw [Finset.le_fold_min]
    have he := e.isLt
    refine ⟨?_, fun f _ => ?_⟩
    · have : (2147483647#32 : BitVec 32).toInt = 2147483647 := by decide
      omega
    · by_cases hf : c f = c e
      · rw [if_pos hf, ofNat_toInt _ f.isLt.le]
        by_contra hlt
        exact absurd hf (h' f (by omega)).ne
      · rw [if_neg hf]
        have : (128#32 : BitVec 32).toInt = 128 := by decide
        omega

theorem select_eq (e f : Fin 128) (a b : EReal) :
    Scalar.select (IntOp.cmpi .eq (BitVec.ofNat 32 f.val) (BitVec.ofNat 32 e.val)) a b = if f = e then a else b := by
  have : IntOp.cmpi .eq (BitVec.ofNat 32 f.val) (BitVec.ofNat 32 e.val) = BitVec.ofBool (decide (f = e)) := by
    rw [WordCmp.cmpi_eq_eq]
    congr 1
    exact decide_eq_decide.mpr ⟨ofNat_inj f e, fun h => by rw [h]⟩
  rw [this]
  by_cases h : f = e
  · simp [h, Scalar.select]
  · simp [h, Scalar.select]

/-- The score of an expert is its entry. -/
theorem scoreAt_eq (s : Fin 128 → EReal) (e : Fin 128) : scoreAt s (BitVec.ofNat 32 e.val) = s e := by
  unfold scoreAt
  rw [peak_eq _ e]
  · rw [select_eq, if_pos rfl]
  · intro i
    rw [select_eq, select_eq, if_pos rfl]
    by_cases h : i = e
    · rw [if_pos h, h]
    · rw [if_neg h, low_eq]; exact bot_le

end Cert.Spec
-- ==== Proof.Token.lean ====
/- The kernel's values of `Loops.lean` at one token, over the extended reals: they are the token's results as `Spec.lean`
   states them. The kernel's loops over the experts are followed once, for any value carried along. -/
module

public import proofs.«01_k».proof.Proof.Spec
public import proofs.«01_k».proof.Proof.Body

@[expose] public section

noncomputable section

namespace Cert.KernelIdeal.Route

open Idealize.ShloMosaic
open Cert.Spec

variable [Facts]
open Facts₀ Facts

/-- What holds along a list of experts in order. -/
theorem Steps.Spans.fold_rule {α : Type} {P : ℕ → α → Prop} {step : Fin 128 → α → α}
    (hstep : ∀ (e : ℕ) (h : e < 128) (a : α), P e a → P (e + 1) (step ⟨e, h⟩ a)) :
    ∀ {s : Steps} {a c : ℕ}, s.Spans a c → ∀ x : α, P a x → P c (s.fold step x) := by
  intro s a c hs
  induction hs with
  | done a => exact fun x hx => hx
  | next e h _ ih => exact fun x hx => ih _ (hstep e h x hx)

/-- A block's maximum is below what all its experts' values are below. -/
theorem top_le (L : Fin 128 → Tile Ideal) (y : S8x128.Idx) {b : Block} {a c : ℕ} (hb : b.Spans a c) (x : EReal) :
    b.top L y ≤ x ↔ ∀ f : Fin 128, a ≤ f.val → f.val < c → L f y ≤ x := by
  have hle : ∀ {b : Block} {a c : ℕ}, b.Spans a c → a ≤ c := by
    intro b a c h
    induction h with
    | leaf e h => omega
    | node _ _ h1 h2 => omega
  induction hb with
  | leaf e h =>
    refine ⟨fun hx f h1 h2 => ?_, fun hx => hx ⟨e, h⟩ le_rfl (Nat.lt_succ_self e)⟩
    have : f = ⟨e, h⟩ := Fin.ext (by show f.val = e; omega)
    rw [this]; exact hx
  | @node l r a b c hl hr ihl ihr =>
    have h1 := hle hl
    have h2 := hle hr
    have : (Block.node l r).top L y = max (l.top L y) (r.top L y) := by pointwise [Block.top]
    rw [this]
    refine (max_le_iff.trans (and_congr ihl ihr)).trans ⟨fun ⟨p, q⟩ f ha hc => ?_, fun hx => ⟨fun f ha hc => hx f ha (by omega), fun f ha hc => hx f (by omega) hc⟩⟩
    by_cases hf : f.val < b
    · exact p f ha hf
    · exact q f (by omega) hc

theorem experts_top (L : Fin 128 → Tile Ideal) (y : S8x128.Idx) : experts.top L y = peak fun e => L e y := by
  refine eq_of_forall_ge_iff fun x => ?_
  rw [top_le L y experts_spans, peak_le]
  exact ⟨fun h f => h f (Nat.zero_le _) f.isLt, fun h f _ _ => h f⟩

theorem group_top (c : Fin 128 → Tile Ideal) (y : S8x128.Idx) {b : Block} (g : Fin 8) (hb : b.Spans (g.val * 16) (g.val * 16 + 16)) :
    b.top c y = groupPeak (fun e => c e y) g := by
  refine eq_of_forall_ge_iff fun x => ?_
  unfold groupPeak
  rw [top_le c y hb, peak_le]
  refine ⟨fun h i => h _ (by show _ ≤ g.val * 16 + i.val; omega) (by show g.val * 16 + i.val < _; omega), fun h f h1 h2 => ?_⟩
  have := h ⟨f.val - g.val * 16, by omega⟩
  simp only [Nat.add_sub_cancel' h1] at this
  exact this

theorem total_at (U : Fin 128 → Tile Ideal) (y : S8x128.Idx) : totalOf U y = ∑ e, U e y := by
  have h := tail_spans.fold_rule (P := fun n (t : Tile Ideal) => t y = ∑ e ∈ Finset.univ.filter (fun e : Fin 128 => e.val < n), U e y)
    (step := fun e t => addf t (U e)) (fun e h t ht => ?_) (U 0) ?_
  · unfold totalOf
    rw [h, Finset.filter_true_of_mem fun e _ => e.isLt]
  · have hs : Finset.univ.filter (fun f : Fin 128 => f.val < e + 1) = insert ⟨e, h⟩ (Finset.univ.filter fun f : Fin 128 => f.val < e) := by
      ext f
      simp only [Finset.mem_filter, Finset.mem_univ, true_and, Finset.mem_insert, Fin.ext_iff]
      omega
    have ha : addf t (U ⟨e, h⟩) y = t y + U ⟨e, h⟩ y := by pointwise
    rw [hs, Finset.sum_insert (by simp), ha, ht, add_comm]
  · have hs : Finset.univ.filter (fun f : Fin 128 => f.val < 1) = {0} := by
      ext f
      simp only [Finset.mem_filter, Finset.mem_univ, true_and, Finset.mem_singleton, Fin.ext_iff]
      have : ((0 : Fin 128) : ℕ) = 0 := rfl
      omega
    rw [hs, Finset.sum_singleton]

theorem scores_at (L : Fin 128 → Tile Ideal) (e : Fin 128) (y : S8x128.Idx) : scoresFrom L e y = score (fun e => L e y) e := by
  have hp : ∀ e, powersOf L (experts.top L) e y = Spec.power (fun e => L e y) e := by
    intro e
    unfold Spec.power
    rw [← experts_top]
    pointwise [powersOf]
  have ht : totalOf (powersOf L (experts.top L)) y = Spec.total fun e => L e y := by
    rw [total_at]
    exact Finset.sum_congr rfl fun e _ => hp e
  rw [← power_mul_inverse, ← hp, ← ht]
  unfold scoresFrom
  pointwise [scoresOf, inverse, fill]

theorem choices_at (β : Vec Ideal S128 .f32) (s : Fin 128 → Tile Ideal) (e : Fin 128) (y : S8x128.Idx) :
    choicesOf β s e y = s e y + β (ix1 e) := by
  pointwise [choicesOf]

/-- The count of the groups ahead, at one token. -/
theorem wins_at (before after : List (Tile Ideal)) (g : Tile Ideal) (y : S8x128.Idx) :
    wins before after g y = ahead (before.map fun h => h y) (after.map fun h => h y) (g y) := by
  have hf : ∀ (f : Tile Ideal → IVec S8x128 1) (l : List (Tile Ideal)) (n : IVec S8x128 32),
      (l.foldl (fun n h => addi n (extui 32 (f h) natLt_1_32)) n) y = l.foldl (fun k h => IntOp.addi k (BitVec.setWidth 32 (f h y))) (n y) := by
    intro f l
    induction l with
    | nil => exact fun n => rfl
    | cons h l ih => exact fun n => ih _
  unfold ahead
  rw [List.foldl_map, List.foldl_map]
  refine (congrArg (IntOp.cmpi .slt · 4#32) ((hf (fun h => cmpf .ogt h g) after _).trans ?_))
  congr 1
  exact hf (fun h => cmpf .oge h g) before _

/-- The largest choices of the eight groups decide at one token which are kept. -/
theorem masked_at (c : Fin 128 → Tile Ideal) (e : Fin 128) (y : S8x128.Idx) : maskedOf c e y = masked (fun e => c e y) e := by
  have hk : winsOf (group0.top c) (group1.top c) (group2.top c) (group3.top c) (group4.top c) (group5.top c) (group6.top c) (group7.top c) (e.val / 16) y
      = keeps (groupPeak fun e => c e y) (e.val / 16) := by
    have h0 := group_top c y 0 group0_spans
    have h1 := group_top c y 1 group1_spans
    have h2 := group_top c y 2 group2_spans
    have h3 := group_top c y 3 group3_spans
    have h4 := group_top c y 4 group4_spans
    have h5 := group_top c y 5 group5_spans
    have h6 := group_top c y 6 group6_spans
    have h7 := group_top c y 7 group7_spans
    have he := e.isLt
    obtain h | h | h | h | h | h | h | h : e.val / 16 = 0 ∨ e.val / 16 = 1 ∨ e.val / 16 = 2 ∨ e.val / 16 = 3 ∨ e.val / 16 = 4
        ∨ e.val / 16 = 5 ∨ e.val / 16 = 6 ∨ e.val / 16 = 7 := by omega
    all_goals
      rw [h]
      unfold winsOf keeps
      simp only [wins_at, List.map_cons, List.map_nil, h0, h1, h2, h3, h4, h5, h6, h7]
  unfold masked
  rw [← hk]
  pointwise [maskedOf, fill]

/-- What a round has found when it has met the first `n` experts. -/
def Leads (c s : Fin 128 → Tile Ideal) (y : S8x128.Idx) (n : ℕ) (b : Best Ideal) : Prop :=
  ∃ e : Fin 128, e.val < n ∧ b.expert y = BitVec.ofNat 32 e.val ∧ b.choice y = c e y ∧ b.score y = s e y
    ∧ (∀ f : Fin 128, f.val < n → c f y ≤ c e y) ∧ ∀ f < e, c f y < c e y

theorem seek_leads (c s : Fin 128 → Tile Ideal) (y : S8x128.Idx) : Leads c s y 128 (seek c s) := by
  unfold seek
  generalize ht : tail = rest
  have hr : rest.Spans 1 128 := ht ▸ tail_spans
  refine hr.fold_rule (P := Leads c s y) (fun n hn b hb => ?_) _ ?_
  · obtain ⟨e, he, h1, h2, h3, h4, h5⟩ := hb
    have m1 : (b.meet n (c ⟨n, hn⟩) (s ⟨n, hn⟩)).choice y = if b.choice y < c ⟨n, hn⟩ y then c ⟨n, hn⟩ y else b.choice y := by
      pointwise [Best.meet]
    have m2 : (b.meet n (c ⟨n, hn⟩) (s ⟨n, hn⟩)).expert y = if b.choice y < c ⟨n, hn⟩ y then BitVec.ofNat 32 n else b.expert y := by
      pointwise [Best.meet]
    have m3 : (b.meet n (c ⟨n, hn⟩) (s ⟨n, hn⟩)).score y = if b.choice y < c ⟨n, hn⟩ y then s ⟨n, hn⟩ y else b.score y := by
      pointwise [Best.meet]
    unfold Leads
    simp only [m1, m2, m3]
    by_cases h : b.choice y < c ⟨n, hn⟩ y
    · simp only [if_pos h]
      rw [h2] at h
      refine ⟨⟨n, hn⟩, Nat.lt_succ_self n, rfl, rfl, rfl, fun f hf => ?_, fun f hf => lt_of_le_of_lt (h4 f hf) h⟩
      by_cases hfn : f.val < n
      · exact ((h4 f hfn).trans_lt h).le
      · have : f = ⟨n, hn⟩ := Fin.ext (by show f.val = n; omega)
        rw [this]
    · simp only [if_neg h]
      rw [h2] at h
      refine ⟨e, by omega, h1, h2, h3, fun f hf => ?_, h5⟩
      by_cases hfn : f.val < n
      · exact h4 f hfn
      · have : f = ⟨n, hn⟩ := Fin.ext (by show f.val = n; omega)
        rw [this]; exact not_lt.mp h
  · refine ⟨0, Nat.zero_lt_one, rfl, rfl, rfl, fun f hf => ?_, fun f hf => absurd hf (Nat.not_lt_zero _)⟩
    have : f = 0 := Fin.ext (by show f.val = 0; omega)
    rw [this]

/-- A round finds the first expert with the largest choice, and its score. -/
theorem seek_at (c s : Fin 128 → Tile Ideal) (y : S8x128.Idx) :
    (seek c s).expert y = first (fun e => c e y) ∧ (seek c s).score y = scoreAt (fun e => s e y) (first fun e => c e y) := by
  obtain ⟨e, he, h1, h2, h3, h4, h5⟩ := seek_leads c s y
  rw [first_eq (fun e => c e y) e (fun f => h4 f f.isLt) h5, scoreAt_eq]
  exact ⟨h1, h3⟩

theorem cmpi_eq_comm (a b : BitVec 32) : IntOp.cmpi .eq a b = IntOp.cmpi .eq b a := by
  rw [WordCmp.cmpi_eq_eq, WordCmp.cmpi_eq_eq, decide_eq_decide.mpr (eq_comm (a := a) (b := b))]

theorem left_at (s c : Fin 128 → Tile Ideal) (y : S8x128.Idx) (r : ℕ) : (fun e => left s c r e y) = remaining (fun e => c e y) r := by
  induction r with
  | zero => rfl
  | succ r ih =>
    funext e
    have hl : left s c (r + 1) e y = Scalar.select (IntOp.cmpi .eq ((seek (left s c r) s).expert y) (BitVec.ofNat 32 e.val)) low (left s c r e y) := by
      pointwise [left, struck, fill]
    unfold remaining strike
    rw [hl, (seek_at (left s c r) s y).1, ih, ← congrFun ih e, cmpi_eq_comm]

theorem found_at (s c : Fin 128 → Tile Ideal) (y : S8x128.Idx) (r : ℕ) :
    (found s c r).expert y = first (remaining (fun e => c e y) r)
      ∧ (found s c r).score y = scoreAt (fun e => s e y) (first (remaining (fun e => c e y) r)) := by
  rw [← left_at s c y r]
  exact seek_at _ _ _

/-- What a round of the whole computation finds at one token, from the logits. -/
theorem foundFrom_at (β : Vec Ideal S128 .f32) (L : Fin 128 → Tile Ideal) (y : S8x128.Idx) (r : ℕ) :
    (foundFrom β L r).expert y = idOf (fun e => L e y) (fun e => β (ix1 e)) r
      ∧ mulf (foundFrom β L r).score (fill 0x40200000#32) y = weightOf (fun e => L e y) (fun e => β (ix1 e)) r := by
  have hs : (fun e => scoresFrom L e y) = score fun e => L e y := funext fun e => scores_at L e y
  have hc : (fun e => maskedOf (choicesOf β (scoresFrom L)) e y) = masked (choice (fun e => L e y) fun e => β (ix1 e)) := by
    funext e
    rw [masked_at]
    congr 1
    funext f
    rw [choices_at, scores_at]
    rfl
  have h := found_at (scoresFrom L) (maskedOf (choicesOf β (scoresFrom L))) y r
  rw [hs, hc] at h
  refine ⟨h.1, ?_⟩
  have hm : mulf (foundFrom β L r).score (fill 0x40200000#32) y = (foundFrom β L r).score y * Ideal.ofBits .f32 0x40200000#32 := by
    pointwise [fill]
  rw [hm]
  unfold weightOf idOf
  rw [← h.2]
  rfl

end Cert.KernelIdeal.Route
-- ==== Proof.Rounds.lean ====
/- The reference's values named round by round: its payloads, printed one operation at a time, are the choices masked by
   groups, and then in each of six rounds the first largest choice, its score, and the choices with it struck out. -/
module

public import proofs.«01_k».proof.Proof.Gen.ReferenceIdeal.Frame

@[expose] public section

noncomputable section

namespace Cert.ReferenceIdeal.Route

open Idealize.ShloMosaic Idealize.ShloMosaic.TcCoe
open Cert.ReferenceIdeal.Gen

variable {F : FTy → Type} [FloatOps F]

/-- Every expert's number, at every token. -/
def numbers : IVec S128x32768 32 := iota .tc S128x32768 32 [0] iota_S128x32768_d0_w32

/-- The first expert with the largest choice, at every token. -/
def firstOf (c : FVec F S128x32768 .f32) : IVec S1x32768 32 :=
  shapeCast S1x32768 (multiReductionI .minsi [0] S32768 (select (cmpf .oeq c (broadcastTo S128x32768 (shapeCast S1x32768
    (multiReduction .maximumf [0] S32768 c 0xFF800000#32 reduces_S128x32768_S32768 (.inl rfl) rfl : FVec F S32768 .f32)
      shapeCasts_S32768_S1x32768) broadcasts_S1x32768_S128x32768))
    numbers (broadcast S128x32768 128#32)) 2147483647#32 reduces_S128x32768_S32768 rfl) shapeCasts_S32768_S1x32768
/-- Whether an expert is that one. -/
def isFirst (c : FVec F S128x32768 .f32) : IVec S128x32768 1 :=
  cmpi .eq numbers (broadcastTo S128x32768 (firstOf c) broadcasts_S1x32768_S128x32768)
/-- The choices with that expert's at −∞. -/
def strikeFirst (c : FVec F S128x32768 .f32) : FVec F S128x32768 .f32 :=
  select (isFirst c) (broadcast S128x32768 (Scalar.ofBits .f32 0xFF800000#32)) c
/-- That expert's score. -/
def scoreFirst (s c : FVec F S128x32768 .f32) : FVec F S32768 .f32 :=
  multiReduction .maximumf [0] S32768 (select (isFirst c) s (broadcast S128x32768 (Scalar.ofBits .f32 0xFF800000#32)))
    0xFF800000#32 reduces_S128x32768_S32768 (.inl rfl) rfl
/-- The choices left for round `r`. -/
def leftFrom (c : FVec F S128x32768 .f32) : ℕ → FVec F S128x32768 .f32
  | 0 => c
  | r + 1 => strikeFirst (leftFrom c r)

/-- Six rounds' experts laid out as the first result. -/
def stackIds (a : ℕ → IVec S1x32768 32) : IVec S8x4096x6 32 :=
  have flat (r : ℕ) : IVec S1x32768 32 := shapeCast S1x32768 (shapeCast S32768 (a r) shapeCasts_S1x32768_S32768 : IVec S32768 32) shapeCasts_S32768_S1x32768
  shapeCast S8x4096x6 (transpose S32768x6 [1, 0] (concatenate S6x32768 0 [⟨S1x32768, flat 0⟩, ⟨S1x32768, flat 1⟩, ⟨S1x32768, flat 2⟩, ⟨S1x32768, flat 3⟩, ⟨S1x32768, flat 4⟩, ⟨S1x32768, flat 5⟩] concatenates_S1x32768_S1x32768_S1x32768_S1x32768_S1x32768_S1x32768_S6x32768_d0 : IVec S6x32768 32) transposes_S6x32768_p1_0_S32768x6) shapeCasts_S32768x6_S8x4096x6
/-- Six rounds' scores, scaled, laid out as the second result. -/
def stackWeights (a : ℕ → FVec F S32768 .f32) : FVec F S8x4096x6 .f32 :=
  have flat (r : ℕ) : FVec F S1x32768 .f32 := shapeCast S1x32768 (a r) shapeCasts_S32768_S1x32768
  shapeCast S8x4096x6 (mulf (transpose S32768x6 [1, 0] (concatenate S6x32768 0 [⟨S1x32768, flat 0⟩, ⟨S1x32768, flat 1⟩, ⟨S1x32768, flat 2⟩, ⟨S1x32768, flat 3⟩, ⟨S1x32768, flat 4⟩, ⟨S1x32768, flat 5⟩] concatenates_S1x32768_S1x32768_S1x32768_S1x32768_S1x32768_S1x32768_S6x32768_d0 : FVec F S6x32768 .f32) transposes_S6x32768_p1_0_S32768x6)
    (broadcast S32768x6 (Scalar.ofBits .f32 0x40200000#32))) shapeCasts_S32768x6_S8x4096x6

theorem stackIds_congr {a b : ℕ → IVec S1x32768 32} (h0 : a 0 = b 0) (h1 : a 1 = b 1) (h2 : a 2 = b 2) (h3 : a 3 = b 3) (h4 : a 4 = b 4)
    (h5 : a 5 = b 5) : stackIds a = stackIds b := by
  unfold stackIds
  dsimp only
  rw [h0, h1, h2, h3, h4, h5]

theorem stackWeights_congr {a b : ℕ → FVec F S32768 .f32} (h0 : a 0 = b 0) (h1 : a 1 = b 1) (h2 : a 2 = b 2) (h3 : a 3 = b 3) (h4 : a 4 = b 4)
    (h5 : a 5 = b 5) : stackWeights a = stackWeights b := by
  unfold stackWeights
  dsimp only
  rw [h0, h1, h2, h3, h4, h5]

/-! ## The first two rounds, printed with the masking -/

section
variable (s : FVec F S128x32768 .f32) (v : FVec F S8x16x32768 .f32) (k0 k1 k2 k3 k4 k5 k6 : IVec S32768 1) (n : IVec S32768 32)

theorem ids_0 : k0_pay28 v k0 k1 k2 k3 k4 k5 k6 n = firstOf (k0_pay27 v k0 k1 k2 k3 k4 k5 k6 n) := rfl
theorem sel_0 : k0_pay29 v k0 k1 k2 k3 k4 k5 k6 n = isFirst (k0_pay27 v k0 k1 k2 k3 k4 k5 k6 n) := rfl
theorem flatIds_0 : k0_pay31 v k0 k1 k2 k3 k4 k5 k6 n = shapeCast S32768 (firstOf (k0_pay27 v k0 k1 k2 k3 k4 k5 k6 n)) shapeCasts_S1x32768_S32768 := rfl
theorem score_0 : k0_pay30 s v k0 k1 k2 k3 k4 k5 k6 n = scoreFirst s (k0_pay27 v k0 k1 k2 k3 k4 k5 k6 n) := rfl
theorem left_1 : k0_pay32 v k0 k1 k2 k3 k4 k5 k6 n = strikeFirst (k0_pay27 v k0 k1 k2 k3 k4 k5 k6 n) := rfl
theorem ids_1 : k0_pay33 v k0 k1 k2 k3 k4 k5 k6 n = firstOf (k0_pay32 v k0 k1 k2 k3 k4 k5 k6 n) := rfl
theorem sel_1 : k0_pay34 v k0 k1 k2 k3 k4 k5 k6 n = isFirst (k0_pay32 v k0 k1 k2 k3 k4 k5 k6 n) := rfl
theorem score_1 : k0_pay35 s v k0 k1 k2 k3 k4 k5 k6 n = scoreFirst s (k0_pay32 v k0 k1 k2 k3 k4 k5 k6 n) := rfl
end

/-! ## The other rounds, from the choices left for the second -/

section
variable (s c : FVec F S128x32768 .f32)

theorem left_2 : k0_pay37 c (isFirst c) = strikeFirst c := rfl
theorem ids_2 : k0_pay38 numbers c (isFirst c) = firstOf (strikeFirst c) := rfl
theorem sel_2 : k0_pay39 numbers c (isFirst c) = isFirst (strikeFirst c) := rfl
theorem score_2 : k0_pay40 s numbers c (isFirst c) = scoreFirst s (strikeFirst c) := rfl
theorem flatIds_2 : k0_pay41 numbers c (isFirst c) = shapeCast S32768 (firstOf (strikeFirst c)) shapeCasts_S1x32768_S32768 := rfl
theorem left_3 : k0_pay42 numbers c (isFirst c) = strikeFirst (strikeFirst c) := rfl
theorem ids_3 : k0_pay43 numbers c (isFirst c) = firstOf (k0_pay42 numbers c (isFirst c)) := rfl
theorem sel_3 : k0_pay44 numbers c (isFirst c) = isFirst (k0_pay42 numbers c (isFirst c)) := rfl
theorem score_3 : k0_pay45 s numbers c (isFirst c) = scoreFirst s (k0_pay42 numbers c (isFirst c)) := rfl
theorem flatIds_3 : k0_pay46 numbers c (isFirst c) = shapeCast S32768 (firstOf (k0_pay42 numbers c (isFirst c))) shapeCasts_S1x32768_S32768 := rfl
theorem left_4 : k0_pay47 numbers c (isFirst c) = strikeFirst (k0_pay42 numbers c (isFirst c)) := rfl
theorem ids_4 : k0_pay48 numbers c (isFirst c) = firstOf (k0_pay47 numbers c (isFirst c)) := rfl
theorem spread_4 : k0_pay49 numbers c (isFirst c) = broadcastTo S128x32768 (firstOf (k0_pay47 numbers c (isFirst c))) broadcasts_S1x32768_S128x32768 := rfl
theorem ids_5 : k0_pay51 numbers c (broadcastTo S128x32768 (firstOf c) broadcasts_S1x32768_S128x32768) = firstOf (strikeFirst c) := rfl

theorem stack_ids (a b d f : IVec S1x32768 32) (g : IVec S1x32768 32) :
    k0_pay52 numbers (shapeCast S32768 a shapeCasts_S1x32768_S32768) (shapeCast S32768 b shapeCasts_S1x32768_S32768)
      (shapeCast S32768 d shapeCasts_S1x32768_S32768) (shapeCast S32768 f shapeCasts_S1x32768_S32768) c g
      (broadcastTo S128x32768 (firstOf c) broadcasts_S1x32768_S128x32768)
      = stackIds fun | 0 => a | 1 => b | 2 => d | 3 => f | 4 => g | _ => firstOf (strikeFirst c) := rfl

theorem stack_weights (a b d f : FVec F S32768 .f32) :
    k0_pay53 s numbers a b d f c (broadcastTo S128x32768 (firstOf c) broadcasts_S1x32768_S128x32768)
      = stackWeights fun | 0 => a | 1 => b | 2 => d | 3 => f | 4 => scoreFirst s c | _ => scoreFirst s (strikeFirst c) := rfl
end

/-! ## The results -/

section
variable (x0 : Vec F S8x4096x3072 .fp8e4m3) (x1 : Vec F S8x4096 .f32) (x2 : Vec F S3072x128 .fp8e4m3) (x3 : Vec F S128 .f32) (x4 : Vec F S128 .f32)

/-- The choices masked by groups. -/
def maskedFrom : FVec F S128x32768 .f32 :=
  k0_pay27 (k0_pay55 x0 x1 x2 x3 x4) (k0_pay57 x0 x1 x2 x3 x4) (k0_pay58 x0 x1 x2 x3 x4) (k0_pay59 x0 x1 x2 x3 x4)
    (k0_pay60 x0 x1 x2 x3 x4) (k0_pay61 x0 x1 x2 x3 x4) (k0_pay62 x0 x1 x2 x3 x4) (k0_pay63 x0 x1 x2 x3 x4) (k0_pay64 x0 x1 x2 x3 x4)

theorem ids_eq : out0_5 x0 x1 x2 x3 x4 = View.canon [⟨r0_4, stackIds fun r => firstOf (leftFrom (maskedFrom x0 x1 x2 x3 x4) r)⟩] := by
  have hM : k0_pay27 (k0_pay55 x0 x1 x2 x3 x4) (k0_pay57 x0 x1 x2 x3 x4) (k0_pay58 x0 x1 x2 x3 x4) (k0_pay59 x0 x1 x2 x3 x4)
    (k0_pay60 x0 x1 x2 x3 x4) (k0_pay61 x0 x1 x2 x3 x4) (k0_pay62 x0 x1 x2 x3 x4) (k0_pay63 x0 x1 x2 x3 x4) (k0_pay64 x0 x1 x2 x3 x4)
      = maskedFrom x0 x1 x2 x3 x4 := rfl
  have h65 : k0_pay65 x0 x1 x2 x3 x4 = numbers := rfl
  unfold out0_5 k0_pay69 k0_pay68
  rw [h65]
  unfold k0_pay67 k0_pay66 k0_pay36
  rw [sel_1, ids_1, flatIds_0, left_1, flatIds_2, flatIds_3, spread_4, ids_4, left_4, left_3, stack_ids, hM]
  generalize maskedFrom x0 x1 x2 x3 x4 = c
  exact congrArg (fun z => View.canon [⟨r0_4, z⟩]) (stackIds_congr rfl rfl rfl rfl rfl rfl)

theorem weights_eq : out0_6 x0 x1 x2 x3 x4
    = View.canon [⟨r0_4, stackWeights fun r => scoreFirst (k0_pay54 x0 x1 x2 x3 x4) (leftFrom (maskedFrom x0 x1 x2 x3 x4) r)⟩] := by
  have hM : k0_pay27 (k0_pay55 x0 x1 x2 x3 x4) (k0_pay57 x0 x1 x2 x3 x4) (k0_pay58 x0 x1 x2 x3 x4) (k0_pay59 x0 x1 x2 x3 x4)
    (k0_pay60 x0 x1 x2 x3 x4) (k0_pay61 x0 x1 x2 x3 x4) (k0_pay62 x0 x1 x2 x3 x4) (k0_pay63 x0 x1 x2 x3 x4) (k0_pay64 x0 x1 x2 x3 x4)
      = maskedFrom x0 x1 x2 x3 x4 := rfl
  have h65 : k0_pay65 x0 x1 x2 x3 x4 = numbers := rfl
  unfold out0_6 k0_pay69 k0_pay68
  rw [h65]
  unfold k0_pay67 k0_pay66
  rw [sel_1, score_0, score_1, left_1, score_2, score_3, spread_4, left_4, left_3, stack_weights, hM]
  generalize maskedFrom x0 x1 x2 x3 x4 = c
  exact congrArg (fun z => View.canon [⟨r0_4, z⟩]) (stackWeights_congr rfl rfl rfl rfl rfl rfl)
end

end Cert.ReferenceIdeal.Route
-- ==== Proof.Reference.lean ====
/- The reference's results at one token, over the extended reals: they are the token's results as `Spec.lean` states them,
   from the logits the reference forms. -/
module

public import proofs.«01_k».proof.Proof.Spec
public import proofs.«01_k».proof.Proof.Rounds

@[expose] public section

noncomputable section

namespace Cert.ReferenceIdeal.Route

open Idealize.ShloMosaic Idealize.ShloMosaic.TcCoe
open Cert.ReferenceIdeal.Gen
open Cert.Spec

/-- A token's place among all tokens. -/
def place (b : Fin 8) (t : Fin 4096) : Fin 32768 := ⟨b.val * 4096 + t.val, by omega⟩

/-- A token's logit for one expert. -/
def logitAt (x : Vec Ideal S8x4096x3072 .fp8e4m3) (xs : Vec Ideal S8x4096 .f32) (w : Vec Ideal S3072x128 .fp8e4m3)
    (ws : Vec Ideal S128 .f32) (b : Fin 8) (t : Fin 4096) (e : Fin 128) : EReal :=
  (∑ k, w (ix2 k e) * x (ix3 b t k)) * xs (ix2 b t) * ws (ix1 e)

/-! ## Rounds at one token -/

section
variable (s c : FVec Ideal S128x32768 .f32) (n : Fin 32768)

theorem firstOf_at : firstOf c (ix2 0 n) = first fun e => c (ix2 e n) := by
  unfold first peak
  pointwise [firstOf, numbers]

theorem strikeFirst_at (e : Fin 128) : strikeFirst c (ix2 e n) = strike (first fun e => c (ix2 e n)) (fun e => c (ix2 e n)) e := by
  unfold strike
  rw [← firstOf_at]
  pointwise [strikeFirst, isFirst, numbers]

theorem scoreFirst_at : scoreFirst s c (ix1 n) = scoreAt (fun e => s (ix2 e n)) (first fun e => c (ix2 e n)) := by
  unfold scoreAt peak
  rw [← firstOf_at]
  pointwise [scoreFirst, isFirst, numbers]

theorem leftFrom_at (r : ℕ) : (fun e => leftFrom c r (ix2 e n)) = remaining (fun e => c (ix2 e n)) r := by
  induction r with
  | zero => rfl
  | succ r ih =>
    funext e
    unfold leftFrom remaining
    rw [strikeFirst_at, ih]
end

theorem stackIds_at (a : ℕ → IVec S1x32768 32) (b : Fin 8) (t : Fin 4096) (r : Fin 6) :
    stackIds a (ix3 b t r) = a r.val (ix2 0 (place b t)) := by
  obtain rfl | rfl | rfl | rfl | rfl | rfl : r = 0 ∨ r = 1 ∨ r = 2 ∨ r = 3 ∨ r = 4 ∨ r = 5 := by
    revert r; decide
  all_goals
    pointwise [stackIds]
    rfl

theorem stackWeights_at (a : ℕ → FVec Ideal S32768 .f32) (b : Fin 8) (t : Fin 4096) (r : Fin 6) :
    stackWeights a (ix3 b t r) = a r.val (ix1 (place b t)) * Ideal.ofBits .f32 0x40200000#32 := by
  obtain rfl | rfl | rfl | rfl | rfl | rfl : r = 0 ∨ r = 1 ∨ r = 2 ∨ r = 3 ∨ r = 4 ∨ r = 5 := by
    revert r; decide
  all_goals
    pointwise [stackWeights]
    rfl

/-! ## Scores, groups and masked choices at one token -/

section
variable (x : Vec Ideal S8x4096x3072 .fp8e4m3) (xs : Vec Ideal S8x4096 .f32) (w : Vec Ideal S3072x128 .fp8e4m3)
  (ws β : Vec Ideal S128 .f32) (b : Fin 8) (t : Fin 4096)

theorem place_div (h) : (⟨(place b t).val / 4096, h⟩ : Fin 8) = b := Fin.ext (by show (b.val * 4096 + t.val) / 4096 = b.val; omega)
theorem place_mod (h) : (⟨(place b t).val % 4096, h⟩ : Fin 4096) = t := Fin.ext (by show (b.val * 4096 + t.val) % 4096 = t.val; omega)

theorem scores_at (e : Fin 128) : k0_pay1 x w xs ws (ix2 e (place b t)) = score (logitAt x xs w ws b t) e := by
  unfold score total power peak logitAt
  pointwise [k0_pay1]
  simp only [place_div, place_mod]

theorem groups_at (g : Fin 8) : k0_pay3 x w xs ws β (ix2 g (place b t)) = groupPeak (choice (logitAt x xs w ws b t) fun e => β (ix1 e)) g := by
  unfold groupPeak peak choice
  simp only [← scores_at]
  pointwise [k0_pay3, k0_pay2]

theorem choices_apply (g : Fin 8) (i : Fin 16) (n : Fin 32768) :
    k0_pay2 x w xs ws β (ix3 g i n) = k0_pay1 x w xs ws (ix2 ⟨g.val * 16 + i.val, by omega⟩ n) + β (ix1 ⟨g.val * 16 + i.val, by omega⟩) := by
  pointwise [k0_pay2]

theorem choices_at (e : Fin 128) (h1 h2) : k0_pay2 x w xs ws β (ix3 ⟨e.val / 16, h1⟩ ⟨e.val % 16, h2⟩ (place b t))
    = choice (logitAt x xs w ws b t) (fun e => β (ix1 e)) e := by
  have he : (⟨e.val / 16 * 16 + e.val % 16, by omega⟩ : Fin 128) = e := Fin.ext (by show e.val / 16 * 16 + e.val % 16 = e.val; omega)
  unfold choice
  rw [choices_apply]
  show k0_pay1 x w xs ws (ix2 (⟨e.val / 16 * 16 + e.val % 16, _⟩ : Fin 128) (place b t))
    + β (ix1 (⟨e.val / 16 * 16 + e.val % 16, _⟩ : Fin 128)) = _
  rw [he, scores_at]

/-! The eight groups' counts. -/

/-- The first count after its first step, over any largest choices. -/
def count_0 (g : FVec Ideal S8x32768 .f32) : IVec S32768 32 :=
  addi (broadcast S32768 0#32) (extui 32 (cmpf .ogt (shapeCast S32768 (extractStridedSlice S1x32768 ![1, 0] g slices_S8x32768_o1_0_S1x32768 : FVec Ideal S1x32768 .f32) shapeCasts_S1x32768_S32768)
    (shapeCast S32768 (extractStridedSlice S1x32768 ![0, 0] g slices_S8x32768_o0_0_S1x32768 : FVec Ideal S1x32768 .f32) shapeCasts_S1x32768_S32768)) natLt_1_32)

theorem count_0_eq : k0_pay4 x w xs ws β = count_0 (k0_pay3 x w xs ws β) := rfl
end

section
variable (g : FVec Ideal S8x32768 .f32) (n : Fin 32768)

theorem keep_0 : k0_pay5 g (count_0 g) (ix1 n) = keeps (fun k => g (ix2 k n)) 0 := by
  pointwise [k0_pay5, count_0, keeps, ahead, List.foldl]
theorem keep_1 : k0_pay8 g (k0_pay6 g) (k0_pay7 g) (ix1 n) = keeps (fun k => g (ix2 k n)) 1 := by
  pointwise [k0_pay8, k0_pay7, k0_pay6, keeps, ahead, List.foldl]
theorem keep_2 : k0_pay11 g (k0_pay9 g) (k0_pay10 g) (ix1 n) = keeps (fun k => g (ix2 k n)) 2 := by
  pointwise [k0_pay11, k0_pay10, k0_pay9, keeps, ahead, List.foldl]
theorem keep_3 : k0_pay15 g (k0_pay12 g) (k0_pay13 g) (k0_pay14 g) (ix1 n) = keeps (fun k => g (ix2 k n)) 3 := by
  pointwise [k0_pay15, k0_pay14, k0_pay13, k0_pay12, keeps, ahead, List.foldl]
theorem keep_4 : k0_pay19 g (k0_pay16 g) (k0_pay17 g) (k0_pay18 g) (ix1 n) = keeps (fun k => g (ix2 k n)) 4 := by
  pointwise [k0_pay19, k0_pay18, k0_pay17, k0_pay16, keeps, ahead, List.foldl]
theorem keep_5 : k0_pay22 g (k0_pay20 g) (k0_pay21 g) (ix1 n) = keeps (fun k => g (ix2 k n)) 5 := by
  pointwise [k0_pay22, k0_pay21, k0_pay20, keeps, ahead, List.foldl]
theorem keep_6 : k0_pay25 g (k0_pay23 g) (k0_pay24 g) (ix1 n) = keeps (fun k => g (ix2 k n)) 6 := by
  pointwise [k0_pay25, k0_pay24, k0_pay23, keeps, ahead, List.foldl]
theorem keep_7 : IntOp.cmpi .slt (k0_pay26 g (ix1 n)) 4#32 = keeps (fun k => g (ix2 k n)) 7 := by
  pointwise [k0_pay26, keeps, ahead, List.foldl]
end

/-- The masked choices, from the eight groups' bits. -/
theorem mask_at (v : FVec Ideal S8x16x32768 .f32) (k0 k1 k2 k3 k4 k5 k6 : IVec S32768 1) (m : IVec S32768 32) (n : Fin 32768) (e : Fin 128)
    (k : ℕ → BitVec 1) (h0 : k0 (ix1 n) = k 0) (h1 : k1 (ix1 n) = k 1) (h2 : k2 (ix1 n) = k 2) (h3 : k3 (ix1 n) = k 3)
    (h4 : k4 (ix1 n) = k 4) (h5 : k5 (ix1 n) = k 5) (h6 : k6 (ix1 n) = k 6) (h7 : IntOp.cmpi .slt (m (ix1 n)) 4#32 = k 7) :
    k0_pay27 v k0 k1 k2 k3 k4 k5 k6 m (ix2 e n)
      = Scalar.select (k (e.val / 16)) (v (ix3 ⟨e.val / 16, by omega⟩ ⟨e.val % 16, by omega⟩ n)) low := by
  pointwise [k0_pay27]
  congr 1
  rw [h0, h1, h2, h3, h4, h5, h6, h7]
  have he := e.isLt
  obtain h | h | h | h | h | h | h | h : e.val / 16 = 0 ∨ e.val / 16 = 1 ∨ e.val / 16 = 2 ∨ e.val / 16 = 3 ∨ e.val / 16 = 4
      ∨ e.val / 16 = 5 ∨ e.val / 16 = 6 ∨ e.val / 16 = 7 := by omega
  all_goals
    rw [h]
    rfl

end Cert.ReferenceIdeal.Route
-- ==== Proof.Results.lean ====
/- The reference's two results at one token, from its rounds, its masked choices and its scores there. -/
module

public import proofs.«01_k».proof.Proof.Reference

@[expose] public section

noncomputable section

namespace Cert.ReferenceIdeal.Route

open Idealize.ShloMosaic Idealize.ShloMosaic.TcCoe
open Cert.ReferenceIdeal.Gen
open Cert.Spec

/-! ## The results at one token -/

section
variable (x : Vec Ideal S8x4096x3072 .fp8e4m3) (xs : Vec Ideal S8x4096 .f32) (w : Vec Ideal S3072x128 .fp8e4m3)
  (ws β : Vec Ideal S128 .f32) (b : Fin 8) (t : Fin 4096) (r : Fin 6)

theorem ld_x : View.ld x r0_0 = x := View.ld_unit_zero (by decide) _ _
theorem ld_w : View.ld w r0_1 = w := View.ld_unit_zero (by decide) _ _
theorem ld_xs : View.ld xs r0_2 = xs := View.ld_unit_zero (by decide) _ _
theorem ld_ws : View.ld ws r0_3 = ws := View.ld_unit_zero (by decide) _ _

theorem masked_at (e : Fin 128) : maskedFrom x xs w ws β (ix2 e (place b t)) = masked (choice (logitAt x xs w ws b t) fun e => β (ix1 e)) e := by
  have hg : (fun g => k0_pay3 x w xs ws β (ix2 g (place b t))) = groupPeak (choice (logitAt x xs w ws b t) fun e => β (ix1 e)) :=
    funext fun g => groups_at x xs w ws β b t g
  unfold maskedFrom masked k0_pay55 k0_pay57 k0_pay58 k0_pay59 k0_pay60 k0_pay61 k0_pay62 k0_pay63 k0_pay64 k0_pay56
  simp only [ld_x, ld_w, ld_xs, ld_ws]
  rw [count_0_eq, mask_at _ _ _ _ _ _ _ _ _ _ e _ (keep_0 _ _) (keep_1 _ _) (keep_2 _ _) (keep_3 _ _) (keep_4 _ _) (keep_5 _ _) (keep_6 _ _) (keep_7 _ _),
    choices_at, hg]

theorem rounds_at : (fun e => leftFrom (maskedFrom x xs w ws β) r.val (ix2 e (place b t)))
    = remaining (masked (choice (logitAt x xs w ws b t) fun e => β (ix1 e))) r.val := by
  rw [leftFrom_at]
  congr 1
  funext e
  exact masked_at x xs w ws β b t e

theorem ids_at : out0_5 x xs w ws β (ix3 b t r) = idOf (logitAt x xs w ws b t) (fun e => β (ix1 e)) r.val := by
  rw [ids_eq, View.canon_unit_zero (by decide), stackIds_at, firstOf_at, rounds_at]
  unfold idOf
  rfl

theorem weights_at : out0_6 x xs w ws β (ix3 b t r) = weightOf (logitAt x xs w ws b t) (fun e => β (ix1 e)) r.val := by
  have hs : (fun e => k0_pay54 x xs w ws β (ix2 e (place b t))) = score (logitAt x xs w ws b t) := by
    funext e
    unfold k0_pay54
    rw [ld_x, ld_w, ld_xs, ld_ws]
    exact scores_at x xs w ws b t e
  rw [weights_eq, View.canon_unit_zero (by decide), stackWeights_at, scoreFirst_at, rounds_at, hs]
  unfold weightOf idOf
  rfl
end

end Cert.ReferenceIdeal.Route
-- ==== Proof.Value.lean ====
/- The kernel's result arrays after the run, over the extended reals: at every token, the token's results as `Spec.lean`
   states them. The 32 grid points' blocks tile the arrays; each point is read at one symbolic index. -/
module

public import proofs.«01_k».proof.Proof.Token
public import proofs.«01_k».proof.Proof.Run
public import proofs.«01_k».proof.Proof.Results
public import Idealize.ShloMosaic.Lib.Pipeline.ValueKit

@[expose] public section

set_option maxRecDepth 16384

noncomputable section

namespace Cert.KernelIdeal.Route

open Idealize.ShloMosaic Idealize.ShloMosaic.TcCoe Idealize.SL.Sem
open Idealize.ShloMosaic.Pipeline (Dat)
open Cert.KernelIdeal.Gen
open Cert.Spec
open Cert.ReferenceIdeal.Route (logitAt)

variable (m : (ℓ : Loc nD τ sig) → Buf (Elt Ideal) ℓ)

/-- The windows' block indices: point `t` has the `t`-th 128 tokens of every batch row. -/
theorem idx : ∀ t : Fin cfg0.N, win0_0.index t = ![0, t.val, 0] ∧ win0_1.index t = ![0, t.val] ∧ win0_2.index t = ![0, 0]
    ∧ win0_3.index t = ![0] ∧ win0_4.index t = ![0] ∧ win0_5.index t = ![0, 0, t.val] ∧ win0_6.index t = ![0, 0, t.val] :=
  (by decide +kernel : ∀ t : Fin grid0.N, _)

/-- The logits of the token at place `j` of the array. -/
abbrev logits (c : Dev nD) (j : S6x8x4096.Idx) : Fin 128 → EReal :=
  logitAt (m ((c : Thread nD τ).loc main_arg0)) (m ((c : Thread nD τ).loc main_arg1)) (m ((c : Thread nD τ).loc main_arg2))
    (m ((c : Thread nD τ).loc main_arg3)) (j 1) (j 2)
/-- The experts' bias. -/
abbrev bias (c : Dev nD) : Fin 128 → EReal := fun e => m ((c : Thread nD τ).loc main_arg4) (ix1 e)

/-- The transposed weights, as the region finds them. -/
theorem weights_entry (c : Dev nD) (e : Fin 128) (k : Fin 3072) :
    V m c main_v0 (ix2 e k) = m ((c : Thread nD τ).loc main_arg2) (ix2 k e) := by
  have h : V m c main_v0 = (transpose S128x3072 [1, 0] (m ((c : Thread nD τ).loc main_arg2)) transposes_S3072x128_S128x3072_1_0
      : Vec Ideal S128x3072 .fp8e4m3) := by
    show StableHlo.after hostOps0 (fun b => m (c, b)) (Proc.devRef .tc main_v0) = _
    after_results
  rw [h]
  pointwise

theorem weights_block (c : Dev nD) (t : Fin cfg0.N) (e : Fin 128) (k : Fin 3072) :
    iblk m c 2 t (ix2 e k) = m ((c : Thread nD τ).loc main_arg2) (ix2 k e) := by
  refine Eq.trans ?_ (weights_entry m c e k)
  blk_simp [iblk]
  blk_ext [idx t]

theorem logits_point (c : Dev nD) (t : Fin cfg0.N) (r : Fin 6) (b : Fin 8) (j : Fin 128) (e : Fin 128) :
    blockLogits (iblk m c 0 t) (iblk m c 1 t) (iblk m c 2 t) (iblk m c 3 t) e (ix2 b j)
      = logits m c (((cfg0.win 5).blk t).view.emb (ix3 r b j)) e := by
  pointwise [blockLogits, logitsOf, rowsOf, product, column, logits, logitAt, weights_block]
  blk_point [iblk, V, idx t]

theorem bias_block (c : Dev nD) (t : Fin cfg0.N) (e : Fin 128) : iblk m c 4 t (ix1 e) = bias m c e := by
  blk_ext! [iblk, V, idx t, bias]

/-- The experts at every place of the array. -/
def idsArray (c : Dev nD) : S6x8x4096.Idx → BitVec 32 := fun i => idOf (logits m c i) (bias m c) (i 0).val
/-- The weights at every place of the array. -/
def weightsArray (c : Dev nD) : S6x8x4096.Idx → EReal := fun i => weightOf (logits m c i) (bias m c) (i 0).val

theorem tile_index (r : Fin 6) (b : Fin 8) (j : Fin 128) :
    (fun a => (ix3 r b j : S6x8x128.Idx) (Fin.succ a) : S8x128.Idx) = ix2 b j := by
  funext a
  match a with
  | ⟨0, _⟩ => rfl
  | ⟨1, _⟩ => rfl

theorem round_index (t : Fin cfg0.N) (r : Fin 6) (b : Fin 8) (j : Fin 128) :
    ((((cfg0.win 5).blk t).view.emb (ix3 r b j) : S6x8x4096.Idx) 0).val = r.val := by
  blk_simp [idx t]

theorem round_index' (t : Fin cfg0.N) (r : Fin 6) (b : Fin 8) (j : Fin 128) :
    (((cfg0.win 6).blk t).view.emb (ix3 r b j) : S6x8x4096.Idx) = ((cfg0.win 5).blk t).view.emb (ix3 r b j) := by
  blk_ext [idx t]

/-- What round `r` finds at a token of point `t`'s block. -/
theorem found_point (c : Dev nD) (t : Fin cfg0.N) (r : Fin 6) (b : Fin 8) (j : Fin 128) :
    (foundFrom (iblk m c 4 t) (blockLogits (iblk m c 0 t) (iblk m c 1 t) (iblk m c 2 t) (iblk m c 3 t)) r.val).expert (ix2 b j)
        = idsArray m c (((cfg0.win 5).blk t).view.emb (ix3 r b j))
      ∧ mulf (foundFrom (iblk m c 4 t) (blockLogits (iblk m c 0 t) (iblk m c 1 t) (iblk m c 2 t) (iblk m c 3 t)) r.val).score
          (fill 0x40200000#32) (ix2 b j)
        = weightsArray m c (((cfg0.win 5).blk t).view.emb (ix3 r b j)) := by
  have h := foundFrom_at (iblk m c 4 t) (blockLogits (iblk m c 0 t) (iblk m c 1 t) (iblk m c 2 t) (iblk m c 3 t)) (ix2 b j) r.val
  have hl : (fun e => blockLogits (iblk m c 0 t) (iblk m c 1 t) (iblk m c 2 t) (iblk m c 3 t) e (ix2 b j))
      = logits m c (((cfg0.win 5).blk t).view.emb (ix3 r b j)) := funext fun e => logits_point m c t r b j e
  have hb : (fun e => iblk m c 4 t (ix1 e)) = bias m c := funext fun e => bias_block m c t e
  rw [hl] at h
  unfold idsArray weightsArray
  rw [round_index]
  exact hb ▸ h

theorem ids_final (c : Dev nD) : (dats m 0 c).arrAt 5 (cfgs 0).N = idsArray m c := by
  refine (dats m 0 c).arrAt_eq_of_covers 5 _ (by decide +kernel) fun t _ y => ?_
  obtain ⟨r, b, j, rfl⟩ : ∃ (r : Fin 6) (b : Fin 8) (j : Fin 128), y = ix3 r b j := ⟨y 0, y 1, y 2, eq_ix3 y⟩
  blk_simp
  rw [after0_5]
  unfold idsAt blockIds pack
  rw [tile_index]
  exact (found_point m c t r b j).1

theorem weights_final (c : Dev nD) : (dats m 0 c).arrAt 6 (cfgs 0).N = weightsArray m c := by
  refine (dats m 0 c).arrAt_eq_of_covers 6 _ (by decide +kernel) fun t _ y => ?_
  obtain ⟨r, b, j, rfl⟩ : ∃ (r : Fin 6) (b : Fin 8) (j : Fin 128), y = ix3 r b j := ⟨y 0, y 1, y 2, eq_ix3 y⟩
  blk_simp
  rw [after0_6]
  unfold wtsAt blockWts pack
  rw [tile_index]
  exact (found_point m c t r b j).2.trans (congrArg (weightsArray m c) (round_index' t r b j).symm)

end Cert.KernelIdeal.Route
-- ==== Proof.Final.lean ====
/- The reference's result arrays after its run, over the extended reals: its one block is the whole of each array, so they
   are the values of `Results.lean` at the argument arrays. -/
module

public import proofs.«01_k».proof.Proof.Results
public import Idealize.ShloMosaic.Lib.Claim
public import Idealize.ShloMosaic.Lib.Pipeline.ValueKit

@[expose] public section

set_option maxRecDepth 16384

noncomputable section

namespace Cert.ReferenceIdeal.Route

open Idealize.ShloMosaic Idealize.ShloMosaic.TcCoe Idealize.SL.Sem
open Idealize.ShloMosaic.Pipeline (Dat)
open Cert.ReferenceIdeal.Gen
open Cert.Spec

/-- The experts of every token, of the argument arrays. -/
def idsOf (x : Vec Ideal S8x4096x3072 .fp8e4m3) (xs : Vec Ideal S8x4096 .f32) (w : Vec Ideal S3072x128 .fp8e4m3)
    (ws β : Vec Ideal S128 .f32) : Vec Ideal S8x4096x6 .i32 :=
  fun i => idOf (logitAt x xs w ws (i 0) (i 1)) (fun e => β (ix1 e)) (i 2).val
/-- The weights of every token, of the argument arrays. -/
def weightsOf (x : Vec Ideal S8x4096x3072 .fp8e4m3) (xs : Vec Ideal S8x4096 .f32) (w : Vec Ideal S3072x128 .fp8e4m3)
    (ws β : Vec Ideal S128 .f32) : Vec Ideal S8x4096x6 .f32 :=
  fun i => weightOf (logitAt x xs w ws (i 0) (i 1)) (fun e => β (ix1 e)) (i 2).val

theorem out_ids (x : Vec Ideal S8x4096x3072 .fp8e4m3) (xs : Vec Ideal S8x4096 .f32) (w : Vec Ideal S3072x128 .fp8e4m3)
    (ws β : Vec Ideal S128 .f32) : out0_5 x xs w ws β = idsOf x xs w ws β := by
  funext i
  rw [eq_ix3 i]
  exact ids_at x xs w ws β (i 0) (i 1) (i 2)

theorem out_weights (x : Vec Ideal S8x4096x3072 .fp8e4m3) (xs : Vec Ideal S8x4096 .f32) (w : Vec Ideal S3072x128 .fp8e4m3)
    (ws β : Vec Ideal S128 .f32) : out0_6 x xs w ws β = weightsOf x xs w ws β := by
  funext i
  rw [eq_ix3 i]
  exact weights_at x xs w ws β (i 0) (i 1) (i 2)

variable (m : (ℓ : Loc nD τ sig) → Buf (Elt Ideal) ℓ)

/-- Every window's block is its whole array. -/
theorem idx : ∀ t : Fin cfg0.N, win0_0.index t = ![0, 0, 0] ∧ win0_1.index t = ![0, 0] ∧ win0_2.index t = ![0, 0]
    ∧ win0_3.index t = ![0] ∧ win0_4.index t = ![0] ∧ win0_5.index t = ![0, 0, 0] ∧ win0_6.index t = ![0, 0, 0] :=
  (by decide +kernel : ∀ t : Fin grid0.N, _)

theorem block_0 (c : Dev nD) (t : Fin cfg0.N) : iblk m c 0 t = m ((c : Thread nD τ).loc main_arg0) := by
  blk_ext! [iblk, V, idx t]
theorem block_1 (c : Dev nD) (t : Fin cfg0.N) : iblk m c 1 t = m ((c : Thread nD τ).loc main_arg1) := by
  blk_ext! [iblk, V, idx t]
theorem block_2 (c : Dev nD) (t : Fin cfg0.N) : iblk m c 2 t = m ((c : Thread nD τ).loc main_arg2) := by
  blk_ext! [iblk, V, idx t]
theorem block_3 (c : Dev nD) (t : Fin cfg0.N) : iblk m c 3 t = m ((c : Thread nD τ).loc main_arg3) := by
  blk_ext! [iblk, V, idx t]
theorem block_4 (c : Dev nD) (t : Fin cfg0.N) : iblk m c 4 t = m ((c : Thread nD τ).loc main_arg4) := by
  blk_ext! [iblk, V, idx t]

theorem after_ids (c : Dev nD) (t : Fin cfg0.N) : (dats m 0 c).after 5 t
    = idsOf (m ((c : Thread nD τ).loc main_arg0)) (m ((c : Thread nD τ).loc main_arg1)) (m ((c : Thread nD τ).loc main_arg2))
      (m ((c : Thread nD τ).loc main_arg3)) (m ((c : Thread nD τ).loc main_arg4)) := by
  rw [after0_5, block_0, block_1, block_2, block_3, block_4]
  exact out_ids _ _ _ _ _

theorem after_weights (c : Dev nD) (t : Fin cfg0.N) : (dats m 0 c).after 6 t
    = weightsOf (m ((c : Thread nD τ).loc main_arg0)) (m ((c : Thread nD τ).loc main_arg1)) (m ((c : Thread nD τ).loc main_arg2))
      (m ((c : Thread nD τ).loc main_arg3)) (m ((c : Thread nD τ).loc main_arg4)) := by
  rw [after0_6, block_0, block_1, block_2, block_3, block_4]
  exact out_weights _ _ _ _ _

/-- THE EXPERTS after the reference's run. -/
theorem ids_final (c : Dev nD) : (dats m 0 c).arrAt 5 (cfgs 0).N
    = idsOf (m ((c : Thread nD τ).loc main_arg0)) (m ((c : Thread nD τ).loc main_arg1)) (m ((c : Thread nD τ).loc main_arg2))
      (m ((c : Thread nD τ).loc main_arg3)) (m ((c : Thread nD τ).loc main_arg4)) := by
  generalize hG : idsOf _ _ _ _ _ = G
  refine (dats m 0 c).arrAt_eq_of_after_last 5 t0_0 (by decide +kernel) _ fun j => ?_
  blk_simp
  rw [after_ids, hG]
  blk_ext [idx t0_0]

/-- THE WEIGHTS after the reference's run. -/
theorem weights_final (c : Dev nD) : (dats m 0 c).arrAt 6 (cfgs 0).N
    = weightsOf (m ((c : Thread nD τ).loc main_arg0)) (m ((c : Thread nD τ).loc main_arg1)) (m ((c : Thread nD τ).loc main_arg2))
      (m ((c : Thread nD τ).loc main_arg3)) (m ((c : Thread nD τ).loc main_arg4)) := by
  generalize hG : weightsOf _ _ _ _ _ = G
  refine (dats m 0 c).arrAt_eq_of_after_last 6 t0_0 (by decide +kernel) _ fun j => ?_
  blk_simp
  rw [after_weights, hG]
  blk_ext [idx t0_0]

end Cert.ReferenceIdeal.Route

end
-- ==== Proof.Tail.lean ====
/- The kernel's results: the arrays the region leaves, transposed by the lines after it. -/
module

public import proofs.«01_k».proof.Proof.Value
public import proofs.«01_k».proof.Proof.Final

@[expose] public section

set_option maxRecDepth 16384

noncomputable section

namespace Cert.KernelIdeal.Route

open Idealize.ShloMosaic Idealize.ShloMosaic.TcCoe Idealize.SL.Sem
open Idealize.ShloMosaic.Pipeline (Dat)
open Cert.KernelIdeal.Gen
open Cert.Spec
open Cert.ReferenceIdeal.Route (logitAt idsOf weightsOf)

variable (m : (ℓ : Loc nD τ sig) → Buf (Elt Ideal) ℓ)

theorem ids_moved (c : Dev nD) :
    (transpose S8x4096x6 [1, 2, 0] (idsArray m c : Vec Ideal S6x8x4096 .i32) transposes_S6x8x4096_S8x4096x6_1_2_0
        : Vec Ideal S8x4096x6 .i32)
      = idsOf (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  generalize hg : idsArray m c = g
  rw [eq_ix3 i]
  refine Eq.trans (b := g (ix3 (i 2) (i 0) (i 1))) ?_ ?_
  · pointwise
  · subst hg; rfl

theorem weights_moved (c : Dev nD) :
    (transpose S8x4096x6 [1, 2, 0] (weightsArray m c : Vec Ideal S6x8x4096 .f32) transposes_S6x8x4096_S8x4096x6_1_2_0
        : Vec Ideal S8x4096x6 .f32)
      = weightsOf (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  generalize hg : weightsArray m c = g
  rw [eq_ix3 i]
  refine Eq.trans (b := g (ix3 (i 2) (i 0) (i 1))) ?_ ?_
  · pointwise
  · subst hg; rfl

/-- The lines after the region, at the experts' result. -/
theorem tail_ids (c : Dev nD) : Pipeline.afterTail₀ cfgs (dats m) 0 (V0 m) [hostOps1] c main_v2
    = idsOf (m ((c : Thread nD τ).loc main_arg0)) (m ((c : Thread nD τ).loc main_arg1)) (m ((c : Thread nD τ).loc main_arg2))
      (m ((c : Thread nD τ).loc main_arg3)) (m ((c : Thread nD τ).loc main_arg4)) := by
  refine Eq.trans ?_ (ids_moved m c)
  rw [← ids_final m c]
  show StableHlo.after hostOps1 _ (Proc.devRef .tc main_v2) = _
  after_results
  exact congrArg (fun X => transpose S8x4096x6 [1, 2, 0] X transposes_S6x8x4096_S8x4096x6_1_2_0)
    (Pipeline.withArrays_arr (cfgs 0).spec (by decide) c _ (fun w => (dats m 0 c).arrAt w (cfgs 0).N) 5)

/-- The same at the weights' result. -/
theorem tail_weights (c : Dev nD) : Pipeline.afterTail₀ cfgs (dats m) 0 (V0 m) [hostOps1] c main_v3
    = weightsOf (m ((c : Thread nD τ).loc main_arg0)) (m ((c : Thread nD τ).loc main_arg1)) (m ((c : Thread nD τ).loc main_arg2))
      (m ((c : Thread nD τ).loc main_arg3)) (m ((c : Thread nD τ).loc main_arg4)) := by
  refine Eq.trans ?_ (weights_moved m c)
  rw [← weights_final m c]
  show StableHlo.after hostOps1 _ (Proc.devRef .tc main_v3) = _
  after_results
  exact congrArg (fun X => transpose S8x4096x6 [1, 2, 0] X transposes_S6x8x4096_S8x4096x6_1_2_0)
    (Pipeline.withArrays_arr (cfgs 0).spec (by decide) c _ (fun w => (dats m 0 c).arrAt w (cfgs 0).N) 6)

end Cert.KernelIdeal.Route

end
-- ==== Proof.Algebraic.lean ====
/- The value claim: over the extended reals the kernel and the reference, run on the same arguments, end with the same
   experts and the same weights. Both are `idsOf` and `weightsOf` of the arguments. -/
module

public import proofs.«01_k».proof.Defs
public import proofs.«01_k».proof.Proof.Tail

@[expose] public section

set_option maxRecDepth 16384

noncomputable section

namespace Cert.KernelIdeal.Route

open Idealize.ShloMosaic Idealize.ShloMosaic.TcCoe Idealize.SL.Sem
open Idealize.ShloMosaic.Pipeline (Dat)
open Cert.KernelIdeal.Gen
open Cert.ReferenceIdeal.Route (idsOf weightsOf)

variable (m : (ℓ : Loc nD τ sig) → Buf (Elt Ideal) ℓ) (ρ : Dev nD → PrngReg)

/-- The kernel's run at its two results. -/
theorem results : θ_run defs (onTc (τ := τ) (main (F := Ideal))) ⟨m, fun _ => 0, ρ⟩ (fun r => ∀ c : Dev nD,
      r.2.mem ((c.tc : Thread nD τ).loc main_v2)
        = idsOf (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c.tc : Thread nD τ).loc main_v3)
        = weightsOf (m ((c : Thread nD τ).loc main_arg0)) (m ((c : Thread nD τ).loc main_arg1)) (m ((c : Thread nD τ).loc main_arg2))
          (m ((c : Thread nD τ).loc main_arg3)) (m ((c : Thread nD τ).loc main_arg4))) :=
  (θ_run defs _ _).mono (fun _ h c =>
    ⟨((h c).2 main_v2 (Pipeline.mem_restRefs_of main_v2 (by decide) (by decide))).trans (tail_ids m c),
     ((h c).2 main_v3 (Pipeline.mem_restRefs_of main_v3 (by decide) (by decide))).trans (tail_weights m c)⟩) (run_main m ρ)

end Cert.KernelIdeal.Route

namespace Cert.ReferenceIdeal.Route

open Idealize.ShloMosaic Idealize.ShloMosaic.TcCoe Idealize.SL.Sem
open Idealize.ShloMosaic.Pipeline (Dat)
open Cert.ReferenceIdeal.Gen

variable (m : (ℓ : Loc nD τ sig) → Buf (Elt Ideal) ℓ) (ρ : Dev nD → PrngReg)

/-- The reference's run at its two results. -/
theorem results : θ_run defs (onTc (τ := τ) (main (F := Ideal))) ⟨m, fun _ => 0, ρ⟩ (fun r => ∀ c : Dev nD,
      r.2.mem ((c.tc : Thread nD τ).loc main_v0_0)
        = idsOf (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c.tc : Thread nD τ).loc main_v0_1)
        = weightsOf (m ((c : Thread nD τ).loc main_arg0)) (m ((c : Thread nD τ).loc main_arg1)) (m ((c : Thread nD τ).loc main_arg2))
          (m ((c : Thread nD τ).loc main_arg3)) (m ((c : Thread nD τ).loc main_arg4))) :=
  (θ_run defs _ _).mono (fun _ h c =>
    ⟨((h c).1 5).trans (ids_final m c), ((h c).1 6).trans (weights_final m c)⟩) (run_main m ρ)

end Cert.ReferenceIdeal.Route

namespace Cert

open Idealize.ShloMosaic Idealize.ShloMosaic.TcCoe Idealize.SL.Sem
open Cert.ReferenceIdeal.Route (idsOf weightsOf)

/-- The two programs' results are equal. -/
theorem algebraic : algebraic_KernelIdeal_ReferenceIdeal (hKernelIdeal := Cert.KernelIdeal.Gen.facts)
    (hReferenceIdeal := Cert.ReferenceIdeal.Gen.facts) := by
  intro m g m' g' _ hagree
  refine ⟨_, _, (θ_run _ _ _).mono (fun r h c => ⟨(h.1 c).1, (h.1 c).2, h.2 c⟩)
      (θ_run_and (KernelIdeal.Route.results m g) (KernelIdeal.Route.unchanged m g)),
    (θ_run _ _ _).mono (fun r h c => ⟨(h.1 c).1.trans ?_, (h.1 c).2.trans ?_, h.2 c⟩)
      (θ_run_and (ReferenceIdeal.Route.results m' g') (ReferenceIdeal.Gen.unchanged m' g'))⟩
  all_goals
    obtain ⟨h0, h1, h2, h3, h4⟩ := hagree c
    rw [h0, h1, h2, h3, h4]

end Cert

end
-- ==== Proof.lean ====
/- The claims of this certificate, each from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Route.frame m ρ,
  fun m ρ _ => Cert.ReferenceIdeal.Gen.frame m ρ,
  trivial,
  Cert.algebraic⟩

end Cert.Proof

end
